-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S3584x2x256 Cert.KernelIdeal.S3584x1x256
  ∧ IdealRules.bf16_pair.BufferStatement Cert.KernelIdeal.S224x2x256 Cert.KernelIdeal.S224x1x256
  ∧ IdealRules.bf16_pair.Statement Cert.KernelIdeal.S128x128 Cert.KernelIdeal.S64x128
  ∧ IdealRules.bf16_pair.Statement Cert.KernelIdeal.S64x2x128 Cert.KernelIdeal.S64x1x128
  ∧ IdealRules.bf16_pair.PackStatement Cert.KernelIdeal.S224x256
  ∧ IdealRules.bf16_pair.Statement Cert.KernelIdeal.S224x2x256 Cert.KernelIdeal.S224x1x256
  ∧ IdealRules.bf16_pair.Statement Cert.KernelIdeal.S1x2x256 Cert.KernelIdeal.S1x1x256
  ∧ IdealRules.bf16_pair.Statement Cert.KernelIdeal.S16x256 Cert.KernelIdeal.S8x256
  ∧ IdealRules.bf16_pair.Statement Cert.KernelIdeal.S64x2x256 Cert.KernelIdeal.S64x1x256
  ∧ IdealRules.bf16_pair.Statement Cert.KernelIdeal.S128x256 Cert.KernelIdeal.S64x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x9728x3584 : Shape := ⟨3, ![3, 9728, 3584]⟩
abbrev S3x9728x224 : Shape := ⟨3, ![3, 9728, 224]⟩
abbrev S3x40x7168 : Shape := ⟨3, ![3, 40, 7168]⟩
abbrev S3x9728x40 : Shape := ⟨3, ![3, 9728, 40]⟩
abbrev S3x224x9728 : Shape := ⟨3, ![3, 224, 9728]⟩
abbrev S3x40x9728 : Shape := ⟨3, ![3, 40, 9728]⟩
abbrev S3x56x9728 : Shape := ⟨3, ![3, 56, 9728]⟩
abbrev S1x256x3584 : Shape := ⟨3, ![1, 256, 3584]⟩
abbrev S1x224x256 : Shape := ⟨3, ![1, 224, 256]⟩
abbrev S1x40x7168 : Shape := ⟨3, ![1, 40, 7168]⟩
abbrev S1x40x256 : Shape := ⟨3, ![1, 40, 256]⟩
abbrev S1x56x256 : Shape := ⟨3, ![1, 56, 256]⟩
abbrev S3584x256 : Shape := ⟨2, ![3584, 256]⟩
abbrev S224x256 : Shape := ⟨2, ![224, 256]⟩
abbrev S2048x256 : Shape := ⟨2, ![2048, 256]⟩
abbrev S2x128x128 : Shape := ⟨3, ![2, 128, 128]⟩
abbrev S56x256 : Shape := ⟨2, ![56, 256]⟩
abbrev S128x128 : Shape := ⟨2, ![128, 128]⟩
abbrev S1x40x128 : Shape := ⟨3, ![1, 40, 128]⟩
abbrev S40x128 : Shape := ⟨2, ![40, 128]⟩
abbrev S8x128 : Shape := ⟨2, ![8, 128]⟩
abbrev S64x128 : Shape := ⟨2, ![64, 128]⟩
abbrev S40x256 : Shape := ⟨2, ![40, 256]⟩
abbrev S8x256 : Shape := ⟨2, ![8, 256]⟩
abbrev S128x256 : Shape := ⟨2, ![128, 256]⟩
abbrev S1x256x128 : Shape := ⟨3, ![1, 256, 128]⟩
abbrev S256x128 : Shape := ⟨2, ![256, 128]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S16x256 : Shape := ⟨2, ![16, 256]⟩
abbrev S64x256 : Shape := ⟨2, ![64, 256]⟩
abbrev S1x8x128 : Shape := ⟨3, ![1, 8, 128]⟩
abbrev S64x2x256 : Shape := ⟨3, ![64, 2, 256]⟩
abbrev S64x1x256 : Shape := ⟨3, ![64, 1, 256]⟩
abbrev S3x9728x56 : Shape := ⟨3, ![3, 9728, 56]⟩

abbrev nBuf : Space → Nat
  | .hbm => 9
  | .vmem => 18
  | .smem => 0
  | _ => 0

abbrev bufTy : (tb : Table) → Fin (tcTables nBuf tb) → BufTy
  | .hbm, ⟨0, _⟩ => ⟨S3x9728x3584, .i8⟩
  | .hbm, ⟨1, _⟩ => ⟨S3x9728x224, .bf16⟩
  | .hbm, ⟨2, _⟩ => ⟨S3x40x7168, .bf16⟩
  | .hbm, ⟨3, _⟩ => ⟨S3x9728x40, .bf16⟩
  | .hbm, ⟨4, _⟩ => ⟨S3x224x9728, .bf16⟩
  | .hbm, ⟨5, _⟩ => ⟨S3x40x9728, .bf16⟩
  | .hbm, ⟨6, _⟩ => ⟨S3x9728x3584, .i8⟩
  | .hbm, ⟨7, _⟩ => ⟨S3x56x9728, .bf16⟩
  | .hbm, ⟨8, _⟩ => ⟨S3x9728x56, .bf16⟩
  | .local _ .vmem, ⟨0, _⟩ => ⟨S1x256x3584, .i8⟩
  | .local _ .vmem, ⟨1, _⟩ => ⟨S1x256x3584, .i8⟩
  | .local _ .vmem, ⟨2, _⟩ => ⟨S1x224x256, .bf16⟩
  | .local _ .vmem, ⟨3, _⟩ => ⟨S1x224x256, .bf16⟩
  | .local _ .vmem, ⟨4, _⟩ => ⟨S1x40x7168, .bf16⟩
  | .local _ .vmem, ⟨5, _⟩ => ⟨S1x40x7168, .bf16⟩
  | .local _ .vmem, ⟨6, _⟩ => ⟨S1x40x256, .bf16⟩
  | .local _ .vmem, ⟨7, _⟩ => ⟨S1x40x256, .bf16⟩
  | .local _ .vmem, ⟨8, _⟩ => ⟨S1x256x3584, .i8⟩
  | .local _ .vmem, ⟨9, _⟩ => ⟨S1x256x3584, .i8⟩
  | .local _ .vmem, ⟨10, _⟩ => ⟨S1x56x256, .bf16⟩
  | .local _ .vmem, ⟨11, _⟩ => ⟨S1x56x256, .bf16⟩
  | .local _ .vmem, ⟨12, _⟩ => ⟨S3584x256, .i32⟩
  | .local _ .vmem, ⟨13, _⟩ => ⟨S224x256, .i32⟩
  | .local _ .vmem, ⟨14, _⟩ => ⟨S2048x256, .f32⟩
  | .local _ .vmem, ⟨15, _⟩ => ⟨S2x128x128, .f32⟩
  | .local _ .vmem, ⟨16, _⟩ => ⟨S56x256, .f32⟩
  | .local _ .vmem, ⟨17, _⟩ => ⟨S56x256, .f32⟩
  | _, _ => ⟨S3x9728x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![3, 38], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2032 : BitVec 32 := 0#32
  let c56_i32 : BitVec 32 := 56#32
  let v7742 : BitVec 32 := Scalar.addi c0_i32_2032 c56_i32
  let c1_i32 : BitVec 32 := 1#32
  ⟨c0_i32_2032, v7742, c1_i32⟩
def k0_mult1 (k0_t1 : Fin k0_t1_loop.trips) : BitVec 32 :=
  let c0_i32_2032 : BitVec 32 := 0#32
  let c1_i32 : BitVec 32 := 1#32
  let arg14 : BitVec 32 := Scf.iv c0_i32_2032 c1_i32 k0_t1
  let c128_i32 : BitVec 32 := 128#32
  let v7743 : BitVec 32 := Scalar.muli arg14 c128_i32
  v7743
def k0_off1 (k0_t1 : Fin k0_t1_loop.trips) : Fin 3 → Nat :=
  let c0_2034 : Index := 0#32
  let c0_2035 : Index := 0#32
  let c0_i32_2032 : BitVec 32 := 0#32
  let c1_i32 : BitVec 32 := 1#32
  let arg14 : BitVec 32 := Scf.iv c0_i32_2032 c1_i32 k0_t1
  let c128_i32 : BitVec 32 := 128#32
  let v7743 : BitVec 32 := Scalar.muli arg14 c128_i32
  let v7744 : BitVec 32 := v7743
  let v7745 : Index := Scalar.indexCast v7744
  ![0, 0, v7745.toNat]
def k0_mult2 (k0_t1 : Fin k0_t1_loop.trips) : BitVec 32 :=
  let c0_i32_2032 : BitVec 32 := 0#32
  let c1_i32 : BitVec 32 := 1#32
  let arg14 : BitVec 32 := Scf.iv c0_i32_2032 c1_i32 k0_t1
  let c64_i32 : BitVec 32 := 64#32
  let v7762 : BitVec 32 := Scalar.muli arg14 c64_i32
  v7762
def k0_off2 (k0_t1 : Fin k0_t1_loop.trips) : Fin 2 → Nat :=
  let c0_i32_2032 : BitVec 32 := 0#32
  let c1_i32 : BitVec 32 := 1#32
  let arg14 : BitVec 32 := Scf.iv c0_i32_2032 c1_i32 k0_t1
  let c64_i32 : BitVec 32 := 64#32
  let v7762 : BitVec 32 := Scalar.muli arg14 c64_i32
  let v7763 : BitVec 32 := v7762
  let v7765 : Index := Scalar.indexCast v7763
  let c0_2038 : Index := 0#32
  ![v7765.toNat, 0]
def k0_off3 (k0_t1 : Fin k0_t1_loop.trips) : Fin 2 → Nat :=
  let c0_i32_2032 : BitVec 32 := 0#32
  let c1_i32 : BitVec 32 := 1#32
  let arg14 : BitVec 32 := Scf.iv c0_i32_2032 c1_i32 k0_t1
  let c64_i32 : BitVec 32 := 64#32
  let v7762 : BitVec 32 := Scalar.muli arg14 c64_i32
  let v7763 : BitVec 32 := v7762
  let v7773 : Index := Scalar.indexCast v7763
  let c128_2039 : Index := 128#32
  ![v7773.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x40x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x40x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3584 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x56x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S3x9728x3584 : Shape := ⟨3, ![3, 9728, 3584]⟩
abbrev S3x9728x224 : Shape := ⟨3, ![3, 9728, 224]⟩
abbrev S3x40x7168 : Shape := ⟨3, ![3, 40, 7168]⟩
abbrev S3x9728x40 : Shape := ⟨3, ![3, 9728, 40]⟩
abbrev S3x224x9728 : Shape := ⟨3, ![3, 224, 9728]⟩
abbrev S3x40x9728 : Shape := ⟨3, ![3, 40, 9728]⟩
abbrev S3x56x9728 : Shape := ⟨3, ![3, 56, 9728]⟩
abbrev S1x256x3584 : Shape := ⟨3, ![1, 256, 3584]⟩
abbrev S1x224x256 : Shape := ⟨3, ![1, 224, 256]⟩
abbrev S1x40x7168 : Shape := ⟨3, ![1, 40, 7168]⟩
abbrev S1x40x256 : Shape := ⟨3, ![1, 40, 256]⟩
abbrev S1x56x256 : Shape := ⟨3, ![1, 56, 256]⟩
abbrev S3584x256 : Shape := ⟨2, ![3584, 256]⟩
abbrev S3584x2x256 : Shape := ⟨3, ![3584, 2, 256]⟩
abbrev S3584x1x256 : Shape := ⟨3, ![3584, 1, 256]⟩
abbrev S224x256 : Shape := ⟨2, ![224, 256]⟩
abbrev S224x2x256 : Shape := ⟨3, ![224, 2, 256]⟩
abbrev S224x1x256 : Shape := ⟨3, ![224, 1, 256]⟩
abbrev S2048x256 : Shape := ⟨2, ![2048, 256]⟩
abbrev S2x128x128 : Shape := ⟨3, ![2, 128, 128]⟩
abbrev S56x256 : Shape := ⟨2, ![56, 256]⟩
abbrev S128x128 : Shape := ⟨2, ![128, 128]⟩
abbrev S1x40x128 : Shape := ⟨3, ![1, 40, 128]⟩
abbrev S40x128 : Shape := ⟨2, ![40, 128]⟩
abbrev S8x128 : Shape := ⟨2, ![8, 128]⟩
abbrev S64x128 : Shape := ⟨2, ![64, 128]⟩
abbrev S64x2x128 : Shape := ⟨3, ![64, 2, 128]⟩
abbrev S64x1x128 : Shape := ⟨3, ![64, 1, 128]⟩
abbrev S40x256 : Shape := ⟨2, ![40, 256]⟩
abbrev S8x256 : Shape := ⟨2, ![8, 256]⟩
abbrev S128x256 : Shape := ⟨2, ![128, 256]⟩
abbrev S1x256x128 : Shape := ⟨3, ![1, 256, 128]⟩
abbrev S256x128 : Shape := ⟨2, ![256, 128]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S1x2x256 : Shape := ⟨3, ![1, 2, 256]⟩
abbrev S1x1x256 : Shape := ⟨3, ![1, 1, 256]⟩
abbrev S16x256 : Shape := ⟨2, ![16, 256]⟩
abbrev S64x256 : Shape := ⟨2, ![64, 256]⟩
abbrev S64x2x256 : Shape := ⟨3, ![64, 2, 256]⟩
abbrev S64x1x256 : Shape := ⟨3, ![64, 1, 256]⟩
abbrev S1x8x128 : Shape := ⟨3, ![1, 8, 128]⟩
abbrev S3x9728x56 : Shape := ⟨3, ![3, 9728, 56]⟩

abbrev nBuf : Space → Nat
  | .hbm => 9
  | .vmem => 18
  | .smem => 0
  | _ => 0

abbrev bufTy : (tb : Table) → Fin (tcTables nBuf tb) → BufTy
  | .hbm, ⟨0, _⟩ => ⟨S3x9728x3584, .i8⟩
  | .hbm, ⟨1, _⟩ => ⟨S3x9728x224, .bf16⟩
  | .hbm, ⟨2, _⟩ => ⟨S3x40x7168, .bf16⟩
  | .hbm, ⟨3, _⟩ => ⟨S3x9728x40, .bf16⟩
  | .hbm, ⟨4, _⟩ => ⟨S3x224x9728, .bf16⟩
  | .hbm, ⟨5, _⟩ => ⟨S3x40x9728, .bf16⟩
  | .hbm, ⟨6, _⟩ => ⟨S3x9728x3584, .i8⟩
  | .hbm, ⟨7, _⟩ => ⟨S3x56x9728, .bf16⟩
  | .hbm, ⟨8, _⟩ => ⟨S3x9728x56, .bf16⟩
  | .local _ .vmem, ⟨0, _⟩ => ⟨S1x256x3584, .i8⟩
  | .local _ .vmem, ⟨1, _⟩ => ⟨S1x256x3584, .i8⟩
  | .local _ .vmem, ⟨2, _⟩ => ⟨S1x224x256, .bf16⟩
  | .local _ .vmem, ⟨3, _⟩ => ⟨S1x224x256, .bf16⟩
  | .local _ .vmem, ⟨4, _⟩ => ⟨S1x40x7168, .bf16⟩
  | .local _ .vmem, ⟨5, _⟩ => ⟨S1x40x7168, .bf16⟩
  | .local _ .vmem, ⟨6, _⟩ => ⟨S1x40x256, .bf16⟩
  | .local _ .vmem, ⟨7, _⟩ => ⟨S1x40x256, .bf16⟩
  | .local _ .vmem, ⟨8, _⟩ => ⟨S1x256x3584, .i8⟩
  | .local _ .vmem, ⟨9, _⟩ => ⟨S1x256x3584, .i8⟩
  | .local _ .vmem, ⟨10, _⟩ => ⟨S1x56x256, .bf16⟩
  | .local _ .vmem, ⟨11, _⟩ => ⟨S1x56x256, .bf16⟩
  | .local _ .vmem, ⟨12, _⟩ => ⟨S3584x2x256, .bf16⟩
  | .local _ .vmem, ⟨13, _⟩ => ⟨S224x2x256, .bf16⟩
  | .local _ .vmem, ⟨14, _⟩ => ⟨S2048x256, .f32⟩
  | .local _ .vmem, ⟨15, _⟩ => ⟨S2x128x128, .f32⟩
  | .local _ .vmem, ⟨16, _⟩ => ⟨S56x256, .f32⟩
  | .local _ .vmem, ⟨17, _⟩ => ⟨S56x256, .f32⟩
  | _, _ => ⟨S3x9728x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 38], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2032 : BitVec 32 := 0#32
  let c56_i32 : BitVec 32 := 56#32
  let v7742 : BitVec 32 := Scalar.addi c0_i32_2032 c56_i32
  let c1_i32 : BitVec 32 := 1#32
  ⟨c0_i32_2032, v7742, c1_i32⟩
def k0_mult1 (k0_t1 : Fin k0_t1_loop.trips) : BitVec 32 :=
  let c0_i32_2032 : BitVec 32 := 0#32
  let c1_i32 : BitVec 32 := 1#32
  let arg14 : BitVec 32 := Scf.iv c0_i32_2032 c1_i32 k0_t1
  let c128_i32 : BitVec 32 := 128#32
  let v7743 : BitVec 32 := Scalar.muli arg14 c128_i32
  v7743
def k0_off1 (k0_t1 : Fin k0_t1_loop.trips) : Fin 3 → Nat :=
  let c0_2034 : Index := 0#32
  let c0_2035 : Index := 0#32
  let c0_i32_2032 : BitVec 32 := 0#32
  let c1_i32 : BitVec 32 := 1#32
  let arg14 : BitVec 32 := Scf.iv c0_i32_2032 c1_i32 k0_t1
  let c128_i32 : BitVec 32 := 128#32
  let v7743 : BitVec 32 := Scalar.muli arg14 c128_i32
  let v7744 : BitVec 32 := v7743
  let v7745 : Index := Scalar.indexCast v7744
  ![0, 0, v7745.toNat]
def k0_mult2 (k0_t1 : Fin k0_t1_loop.trips) : BitVec 32 :=
  let c0_i32_2032 : BitVec 32 := 0#32
  let c1_i32 : BitVec 32 := 1#32
  let arg14 : BitVec 32 := Scf.iv c0_i32_2032 c1_i32 k0_t1
  let c64_i32 : BitVec 32 := 64#32
  let v7762 : BitVec 32 := Scalar.muli arg14 c64_i32
  v7762
def k0_off2 (k0_t1 : Fin k0_t1_loop.trips) : Fin 3 → Nat :=
  let c0_i32_2032 : BitVec 32 := 0#32
  let c1_i32 : BitVec 32 := 1#32
  let arg14 : BitVec 32 := Scf.iv c0_i32_2032 c1_i32 k0_t1
  let c64_i32 : BitVec 32 := 64#32
  let v7762 : BitVec 32 := Scalar.muli arg14 c64_i32
  let v7763 : BitVec 32 := v7762
  let v7765 : Index := Scalar.indexCast v7763
  let c0_2038 : Index := 0#32
  ![v7765.toNat, 0, 0]
def k0_off3 (k0_t1 : Fin k0_t1_loop.trips) : Fin 3 → Nat :=
  let c0_i32_2032 : BitVec 32 := 0#32
  let c1_i32 : BitVec 32 := 1#32
  let arg14 : BitVec 32 := Scf.iv c0_i32_2032 c1_i32 k0_t1
  let c64_i32 : BitVec 32 := 64#32
  let v7762 : BitVec 32 := Scalar.muli arg14 c64_i32
  let v7763 : BitVec 32 := v7762
  let v7773 : Index := Scalar.indexCast v7763
  let c128_2039 : Index := 128#32
  ![v7773.toNat, 0, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x40x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x40x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3584 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x56x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x9728x3584 : Shape := ⟨3, ![3, 9728, 3584]⟩
abbrev S3x9728x224 : Shape := ⟨3, ![3, 9728, 224]⟩
abbrev S3x40x7168 : Shape := ⟨3, ![3, 40, 7168]⟩
abbrev S3x9728x40 : Shape := ⟨3, ![3, 9728, 40]⟩
abbrev S_ : Shape := ⟨0, ![]⟩
abbrev S3x40x3584 : Shape := ⟨3, ![3, 40, 3584]⟩
abbrev S3x9728x224x16 : Shape := ⟨4, ![3, 9728, 224, 16]⟩
abbrev S3x9728x224x1 : Shape := ⟨4, ![3, 9728, 224, 1]⟩
abbrev S3x9728x56x64 : Shape := ⟨4, ![3, 9728, 56, 64]⟩
abbrev S3x9728x56 : Shape := ⟨3, ![3, 9728, 56]⟩
abbrev S3x9728x56x1 : Shape := ⟨4, ![3, 9728, 56, 1]⟩

abbrev nBuf : Space → Nat
  | .hbm => 102
  | .vmem => 0
  | .smem => 0
  | _ => 0

abbrev bufTy : (tb : Table) → Fin (tcTables nBuf tb) → BufTy
  | .hbm, ⟨0, _⟩ => ⟨S3x9728x3584, .i8⟩
  | .hbm, ⟨1, _⟩ => ⟨S3x9728x224, .bf16⟩
  | .hbm, ⟨2, _⟩ => ⟨S3x40x7168, .bf16⟩
  | .hbm, ⟨3, _⟩ => ⟨S3x9728x40, .bf16⟩
  | .hbm, ⟨4, _⟩ => ⟨S3x9728x3584, .i32⟩
  | .hbm, ⟨5, _⟩ => ⟨S_, .i32⟩
  | .hbm, ⟨6, _⟩ => ⟨S3x9728x3584, .i32⟩
  | .hbm, ⟨7, _⟩ => ⟨S3x9728x3584, .i32⟩
  | .hbm, ⟨8, _⟩ => ⟨S_, .i32⟩
  | .hbm, ⟨9, _⟩ => ⟨S3x9728x3584, .i32⟩
  | .hbm, ⟨10, _⟩ => ⟨S3x9728x3584, .i32⟩
  | .hbm, ⟨11, _⟩ => ⟨S_, .i32⟩
  | .hbm, ⟨12, _⟩ => ⟨S3x9728x3584, .i32⟩
  | .hbm, ⟨13, _⟩ => ⟨S3x9728x3584, .i32⟩
  | .hbm, ⟨14, _⟩ => ⟨S_, .i32⟩
  | .hbm, ⟨15, _⟩ => ⟨S3x9728x3584, .i32⟩
  | .hbm, ⟨16, _⟩ => ⟨S3x9728x3584, .i32⟩
  | .hbm, ⟨17, _⟩ => ⟨S3x40x3584, .bf16⟩
  | .hbm, ⟨18, _⟩ => ⟨S3x40x3584, .bf16⟩
  | .hbm, ⟨19, _⟩ => ⟨S3x9728x224x16, .i32⟩
  | .hbm, ⟨20, _⟩ => ⟨S3x9728x224x16, .bf16⟩
  | .hbm, ⟨21, _⟩ => ⟨S3x9728x224x1, .bf16⟩
  | .hbm, ⟨22, _⟩ => ⟨S3x9728x224x16, .bf16⟩
  | .hbm, ⟨23, _⟩ => ⟨S3x9728x224x16, .bf16⟩
  | .hbm, ⟨24, _⟩ => ⟨S3x9728x3584, .bf16⟩
  | .hbm, ⟨25, _⟩ => ⟨S3x9728x3584, .f32⟩
  | .hbm, ⟨26, _⟩ => ⟨S3x9728x3584, .f32⟩
  | .hbm, ⟨27, _⟩ => ⟨S_, .f32⟩
  | .hbm, ⟨28, _⟩ => ⟨S3x9728x3584, .f32⟩
  | .hbm, ⟨29, _⟩ => ⟨S3x9728x3584, .f32⟩
  | .hbm, ⟨30, _⟩ => ⟨S3x9728x3584, .f32⟩
  | .hbm, ⟨31, _⟩ => ⟨S3x9728x224x16, .i32⟩
  | .hbm, ⟨32, _⟩ => ⟨S3x9728x224x16, .bf16⟩
  | .hbm, ⟨33, _⟩ => ⟨S3x9728x224x1, .bf16⟩
  | .hbm, ⟨34, _⟩ => ⟨S3x9728x224x16, .bf16⟩
  | .hbm, ⟨35, _⟩ => ⟨S3x9728x224x16, .bf16⟩
  | .hbm, ⟨36, _⟩ => ⟨S3x9728x3584, .bf16⟩
  | .hbm, ⟨37, _⟩ => ⟨S3x9728x3584, .f32⟩
  | .hbm, ⟨38, _⟩ => ⟨S3x9728x3584, .f32⟩
  | .hbm, ⟨39, _⟩ => ⟨S_, .f32⟩
  | .hbm, ⟨40, _⟩ => ⟨S3x9728x3584, .f32⟩
  | .hbm, ⟨41, _⟩ => ⟨S3x9728x3584, .f32⟩
  | .hbm, ⟨42, _⟩ => ⟨S3x9728x3584, .f32⟩
  | .hbm, ⟨43, _⟩ => ⟨S3x9728x56x64, .f32⟩
  | .hbm, ⟨44, _⟩ => ⟨S3x9728x56x64, .f32⟩
  | .hbm, ⟨45, _⟩ => ⟨S3x9728x56x64, .f32⟩
  | .hbm, ⟨46, _⟩ => ⟨S_, .f32⟩
  | .hbm, ⟨47, _⟩ => ⟨S3x9728x56, .f32⟩
  | .hbm, ⟨48, _⟩ => ⟨S3x9728x56x64, .f32⟩
  | .hbm, ⟨49, _⟩ => ⟨S_, .f32⟩
  | .hbm, ⟨50, _⟩ => ⟨S3x9728x56, .f32⟩
  | .hbm, ⟨51, _⟩ => ⟨S3x9728x56, .f32⟩
  | .hbm, ⟨52, _⟩ => ⟨S_, .f32⟩
  | .hbm, ⟨53, _⟩ => ⟨S3x9728x56, .f32⟩
  | .hbm, ⟨54, _⟩ => ⟨S3x9728x56, .i1⟩
  | .hbm, ⟨55, _⟩ => ⟨S_, .f32⟩
  | .hbm, ⟨56, _⟩ => ⟨S3x9728x56, .f32⟩
  | .hbm, ⟨57, _⟩ => ⟨S3x9728x56, .f32⟩
  | .hbm, ⟨58, _⟩ => ⟨S_, .f32⟩
  | .hbm, ⟨59, _⟩ => ⟨S_, .f32⟩
  | .hbm, ⟨60, _⟩ => ⟨S3x9728x56, .f32⟩
  | .hbm, ⟨61, _⟩ => ⟨S3x9728x56, .f32⟩
  | .hbm, ⟨62, _⟩ => ⟨S3x9728x56, .bf16⟩
  | .hbm, ⟨63, _⟩ => ⟨S3x9728x56, .f32⟩
  | .hbm, ⟨64, _⟩ => ⟨S3x9728x56x1, .f32⟩
  | .hbm, ⟨65, _⟩ => ⟨S3x9728x56x64, .f32⟩
  | .hbm, ⟨66, _⟩ => ⟨S3x9728x56x64, .f32⟩
  | .hbm, ⟨67, _⟩ => ⟨S3x9728x56x64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S3x9728x56x64, .f32⟩
  | .hbm, ⟨72, _⟩ => ⟨S3x9728x56x64, .f32⟩
  | .hbm, ⟨73, _⟩ => ⟨S_, .f32⟩
  | .hbm, ⟨74, _⟩ => ⟨S3x9728x56x64, .f32⟩
  | .hbm, ⟨75, _⟩ => ⟨S3x9728x56x64, .f32⟩
  | .hbm, ⟨76, _⟩ => ⟨S3x9728x56x64, .i32⟩
  | .hbm, ⟨77, _⟩ => ⟨S3x9728x3584, .i32⟩
  | .hbm, ⟨78, _⟩ => ⟨S3x9728x56x64, .f32⟩
  | .hbm, ⟨79, _⟩ => ⟨S3x9728x56x64, .f32⟩
  | .hbm, ⟨80, _⟩ => ⟨S3x9728x56x64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S3x9728x56x64, .f32⟩
  | .hbm, ⟨85, _⟩ => ⟨S3x9728x56x64, .f32⟩
  | .hbm, ⟨86, _⟩ => ⟨S_, .f32⟩
  | .hbm, ⟨87, _⟩ => ⟨S3x9728x56x64, .f32⟩
  | .hbm, ⟨88, _⟩ => ⟨S3x9728x56x64, .f32⟩
  | .hbm, ⟨89, _⟩ => ⟨S3x9728x56x64, .i32⟩
  | .hbm, ⟨90, _⟩ => ⟨S3x9728x3584, .i32⟩
  | .hbm, ⟨91, _⟩ => ⟨S_, .i32⟩
  | .hbm, ⟨92, _⟩ => ⟨S3x9728x3584, .i32⟩
  | .hbm, ⟨93, _⟩ => ⟨S3x9728x3584, .i32⟩
  | .hbm, ⟨94, _⟩ => ⟨S_, .i32⟩
  | .hbm, ⟨95, _⟩ => ⟨S3x9728x3584, .i32⟩
  | .hbm, ⟨96, _⟩ => ⟨S3x9728x3584, .i32⟩
  | .hbm, ⟨97, _⟩ => ⟨S_, .i32⟩
  | .hbm, ⟨98, _⟩ => ⟨S3x9728x3584, .i32⟩
  | .hbm, ⟨99, _⟩ => ⟨S3x9728x3584, .i32⟩
  | .hbm, ⟨100, _⟩ => ⟨S3x9728x3584, .i32⟩
  | .hbm, ⟨101, _⟩ => ⟨S3x9728x3584, .i8⟩
  | _, _ => ⟨S3x9728x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_cst_10 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_cst_12 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Proof.Model.lean ====
/-
What one visit of the kernel computes, as one parametric definition.

The kernel's body is written out 28 times for the 28 tiles of 256 weight rows (each tile is two
groups of 128 rows), with the three stages of a tile (unpack and multiply, group scales, requantise)
interleaved. This module states each stage once, with the number of the tile or of the group as an
argument; `Proof/RunsAsModel.lean` shows that the executed body is this model.

All definitions hold at any float carrier `F`. The left operands of the products (`lrow g`, the
128 rows of group `g`) are an argument, because a visit either builds them or finds them built.
-/
module

public import proofs.«01_k».proof.Proof.Gen.KernelIdeal.Skeleton

@[expose] public section

set_option maxRecDepth 16384

noncomputable section

namespace Cert.KernelIdeal.Model

open Idealize.ShloMosaic Idealize.SL.Sem Cert.KernelIdeal.Gen

variable {F : FTy → Type} [FloatOps F]

/-! ### Blocks at a symbolic offset -/

theorem slices_codes (o : ℕ) (h : o + 16 ≤ 256) : S256x256.Slices ![o, 0] S16x256 :=
  ⟨rfl, by intro a; fin_cases a; exacts [h, Nat.le_refl 256]⟩

theorem slices_rows (o : ℕ) (h : o + 8 ≤ 128) : S128x256.Slices ![o, 0] S8x256 :=
  ⟨rfl, by intro a; fin_cases a; exacts [h, Nat.le_refl 256]⟩

theorem slices_half (o : ℕ) (h : o + 128 ≤ 256) : S8x256.Slices ![0, o] S8x128 :=
  ⟨rfl, by intro a; fin_cases a; exacts [Nat.le_refl 8, h]⟩

/-- The rows of group `g` in the ring of sixteen group products. -/
def yRect (g : ℕ) : Rect S2048x256 :=
  Rect.unit ![128 * (g % 16), 0] S128x256.size
    (by intro a; fin_cases a; exacts [show 128 * (g % 16) + 128 ≤ 2048 by omega, Nat.le_refl 256])

/-- Row `n` of the block of weight scales, both halves of its words. -/
def wRect (n : ℕ) : Rect S224x2x256 :=
  Rect.unit ![n % 224, 0, 0] S1x2x256.size
    (by intro a; fin_cases a; exacts [show n % 224 + 1 ≤ 224 by omega, Nat.le_refl 2, Nat.le_refl 256])

/-- Where half `k % 2` of the partial maxima of group `k / 2` is kept. -/
def pmRect (k : ℕ) : Rect S2x128x128 :=
  Rect.unit ![k % 2, 8 * ((k / 2) % 16), 0] S1x8x128.size
    (by intro a; fin_cases a
        exacts [show k % 2 + 1 ≤ 2 by omega, show 8 * ((k / 2) % 16) + 8 ≤ 128 by omega, Nat.le_refl 128])

/-- Partial maximum `k` of each of the eight groups of `sg`, half `c`: every eighth row. -/
def pmLoad (sg c k : ℕ) : LoadRect S2x128x128 :=
  { off := ![c % 2, 64 * (sg % 2) + k % 8, 0], size := S1x8x128.size, stride := ![1, 8, 1],
    inb := by
      intro a; fin_cases a
      · right; show c % 2 + 1 * (1 - 1) < 2; omega
      · right; show 64 * (sg % 2) + k % 8 + 8 * (8 - 1) < 128; omega
      · right; show 0 + 1 * (128 - 1) < 128; omega }

/-- Where half `k % 2` of the scales of the eight groups `8 * (k / 2) …` is kept. -/
def sRect (k : ℕ) : Rect S56x256 :=
  Rect.unit ![8 * ((k / 2) % 7), 128 * (k % 2)] S8x128.size
    (by intro a; fin_cases a
        exacts [show 8 * ((k / 2) % 7) + 8 ≤ 56 by omega, show 128 * (k % 2) + 128 ≤ 256 by omega])

/-- Row `g` of the block of group scales. -/
def rRect (g : ℕ) : Rect S56x256 :=
  Rect.unit ![g % 56, 0] S1x256.size
    (by intro a; fin_cases a; exacts [show g % 56 + 1 ≤ 56 by omega, Nat.le_refl 256])

/-- The columns of tile `t` in the block of packed codes the visit writes. -/
def oRect (t : ℕ) : Rect S1x256x3584 :=
  Rect.unit ![0, 0, 128 * (t % 28)] S1x256x128.size
    (by intro a; fin_cases a
        exacts [Nat.le_refl 1, Nat.le_refl 256, show 128 * (t % 28) + 128 ≤ 3584 by omega])

/-- The rows of group `g` in the left operands, two rows to a row of words. -/
def lRect (g : ℕ) : Rect S3584x2x256 :=
  Rect.unit ![64 * (g % 56), 0, 0] S64x2x256.size
    (by intro a; fin_cases a; exacts [show 64 * (g % 56) + 64 ≤ 3584 by omega, Nat.le_refl 2, Nat.le_refl 256])

/-! ### The product of one group -/

/-- One half of a row of words, stretched over eight rows. -/
def stretch (p : Fin 2) (w : Vec F S1x2x256 .bf16) : FVec F S8x256 .bf16 :=
  have v : FVec F S1x256 .bf16 := shapeCast S1x256 (rowsOfParity p S1x1x256 w bitcasts_S1x2x256_w16_S1x1x256_w32)
    shapeCasts_S1x1x256_S1x256
  concatenate S8x256 0 [⟨S1x256, v⟩, ⟨S1x256, v⟩, ⟨S1x256, v⟩, ⟨S1x256, v⟩, ⟨S1x256, v⟩, ⟨S1x256, v⟩, ⟨S1x256, v⟩, ⟨S1x256, v⟩]
    concatenates_S1x256_S1x256_S1x256_S1x256_S1x256_S1x256_S1x256_S1x256_S8x256_d0

/-- A row of weight scales, stretched over sixteen rows. -/
def wide (w : Vec F S1x2x256 .bf16) : FVec F S16x256 .bf16 :=
  interleaveRows S16x256 (stretch 0 w) (stretch 1 w) bitcasts_S16x256_w16_S8x256_w32

/-- The left operand of a group, from its rows of words. -/
def left (x : Vec F S64x2x256 .bf16) : FVec F S128x256 .bf16 :=
  interleaveRows S128x256
    (shapeCast S64x256 (rowsOfParity 0 S64x1x256 x bitcasts_S64x2x256_w16_S64x1x256_w32) shapeCasts_S64x1x256_S64x256)
    (shapeCast S64x256 (rowsOfParity 1 S64x1x256 x bitcasts_S64x2x256_w16_S64x1x256_w32) shapeCasts_S64x1x256_S64x256)
    bitcasts_S128x256_w16_S64x256_w32

/-- The codes of a tile, unpacked. -/
def unpacked (x : Vec F S1x256x128 .i8) : FVec F S256x256 .bf16 := k0_pay8 (F := F) (k0_pay7 (F := F) x)

/-- Sixteen rows of dequantised weights: rows `o …` of the tile's codes times one row of scales. -/
def scaled (codes : FVec F S256x256 .bf16) (w : Vec F S1x2x256 .bf16) (o : ℕ) (h : o + 16 ≤ 256) : FVec F S16x256 .bf16 :=
  mulf (extractStridedSlice S16x256 ![o, 0] codes (slices_codes o h)) (wide w)

/-- The product of group `g`, from its left operand, the codes of its tile, its four rows of scales
    and the second factor of the low-rank update. -/
def product (g : ℕ) (lhs : Vec F S128x256 .bf16) (codes : FVec F S256x256 .bf16) (w : ℕ → Vec F S1x2x256 .bf16)
    (b : FVec F S128x256 .bf16) : FVec F S128x256 .f32 :=
  matmul dot_S128x256_S256x256_S128x256_1_0_0_1_n_n none lhs
    (concatenate S256x256 0
      [⟨S16x256, scaled codes (w (4 * g)) (128 * (g % 2)) (by omega)⟩,
       ⟨S16x256, scaled codes (w (4 * g)) (128 * (g % 2) + 16) (by omega)⟩,
       ⟨S16x256, scaled codes (w (4 * g + 1)) (128 * (g % 2) + 32) (by omega)⟩,
       ⟨S16x256, scaled codes (w (4 * g + 1)) (128 * (g % 2) + 48) (by omega)⟩,
       ⟨S16x256, scaled codes (w (4 * g + 2)) (128 * (g % 2) + 64) (by omega)⟩,
       ⟨S16x256, scaled codes (w (4 * g + 2)) (128 * (g % 2) + 80) (by omega)⟩,
       ⟨S16x256, scaled codes (w (4 * g + 3)) (128 * (g % 2) + 96) (by omega)⟩,
       ⟨S16x256, scaled codes (w (4 * g + 3)) (128 * (g % 2) + 112) (by omega)⟩,
       ⟨S128x256, b⟩]
      concatenates_S16x256_S16x256_S16x256_S16x256_S16x256_S16x256_S16x256_S16x256_S128x256_S256x256_d0)
    (constant S128x256 .f32 0x00000000#32)

/-! ### Partial maxima -/

/-- The maximum of `|y|` over the rows `r, r + 8, …, r + 8 n` of a group, for `r < 8`. -/
def rowMax (y : FVec F S128x256 .f32) : ℕ → FVec F S8x256 .f32
  | 0 => absf (extractStridedSlice S8x256 ![0, 0] y (slices_rows 0 (by omega)))
  | n + 1 => maximumf (rowMax y n)
      (absf (extractStridedSlice S8x256 ![8 * ((n + 1) % 16), 0] y (slices_rows (8 * ((n + 1) % 16)) (by omega))))

/-- One half of the partial maxima of a group, as it is stored. -/
def pmPart (y : FVec F S128x256 .f32) (k : ℕ) : FVec F S1x8x128 .f32 :=
  shapeCast S1x8x128 (extractStridedSlice S8x128 ![0, 128 * (k % 2)] (rowMax y 15) (slices_half (128 * (k % 2)) (by omega)))
    shapeCasts_S8x128_S1x8x128

/-! ### Group scales -/

/-- The maximum of the first `n + 1` partial maxima. -/
def colMax (p : ℕ → Vec F S1x8x128 .f32) : ℕ → FVec F S8x128 .f32
  | 0 => shapeCast S8x128 (p 0) shapeCasts_S1x8x128_S8x128
  | n + 1 => maximumf (colMax p n) (shapeCast S8x128 (p (n + 1)) shapeCasts_S1x8x128_S8x128)

/-- The scales from the maxima: `a / 7`, and 1 where `a = 0`. -/
def scaleOf (a : FVec F S8x128 .f32) : FVec F S8x128 .f32 :=
  extf .f32 (truncf .bf16
    (select (cmpf .oeq a (broadcast S8x128 (Scalar.ofBits .f32 0x00000000#32)))
      (broadcast S8x128 (Scalar.ofBits .f32 0x3F800000#32))
      (divf a (broadcast S8x128 (Scalar.ofBits .f32 0x40E00000#32)))) bitsLt_bf16_f32) bitsLt_bf16_f32

/-! ### Requantised codes -/

/-- The codes of one group as 32-bit integers: `y * r` rounded and clipped to `[-7, 7]`. -/
def quant (y : Vec F S128x256 .f32) (r : Vec F S1x256 .f32) : IVec S128x256 32 :=
  fptosi 32 (minimumf (broadcast S128x256 (Scalar.ofBits .f32 0x40E00000#32))
    (maximumf (broadcast S128x256 (Scalar.ofBits .f32 0xC0E00000#32))
      (roundeven (mulf y (broadcastTo S128x256 r broadcasts_S1x256_S128x256)))))

/-- The codes of one group packed two to a byte. -/
def packed (q : IVec S128x256 32) : IVec S64x256 8 :=
  have v : IVec S64x2x256 32 := shapeCast S64x2x256 (extsi 32 (trunci 4 (trunci 8 q natLt_8_32) natLt_4_8) natLt_4_32)
    shapeCasts_S128x256_S64x2x256
  trunci 8 (ori
    (andi (shapeCast S64x256 (extractStridedSlice S64x1x256 ![0, 0, 0] v slices_S64x2x256_o0_0_0_S64x1x256)
      shapeCasts_S64x1x256_S64x256) (broadcast S64x256 15#32))
    (shli (andi (shapeCast S64x256 (extractStridedSlice S64x1x256 ![0, 1, 0] v slices_S64x2x256_o0_1_0_S64x1x256)
      shapeCasts_S64x1x256_S64x256) (broadcast S64x256 15#32)) (broadcast S64x256 4#32))) natLt_8_32

/-- The packed codes of one tile, transposed as they are stored. -/
def tile (p0 p1 : IVec S64x256 8) : IVec S1x256x128 8 :=
  shapeCast S1x256x128
    (transpose S256x128 [1, 0]
      (concatenate S128x256 0 [⟨S64x256, p0⟩, ⟨S64x256, p1⟩] concatenates_S64x256_S64x256_S128x256_d0)
      transposes_S128x256_p1_0_S256x128)
    shapeCasts_S256x128_S1x256x128

/-! ### One visit -/

section Visit

/-- What one visit reads: the views of its scratch buffers and its operands. -/
structure Inputs (F : FTy → Type) [FloatOps F] where
  v9 : View sig .tc .vmem S224x2x256 .bf16
  v10 : View sig .tc .vmem S2048x256 .f32
  v11 : View sig .tc .vmem S2x128x128 .f32
  v12 : View sig .tc .vmem S56x256 .f32
  v13 : View sig .tc .vmem S56x256 .f32
  /-- the packed codes of tile `t` -/
  xq : ℕ → Vec F S1x256x128 .i8
  /-- the weight scales -/
  xw : Vec F S1x224x256 .bf16
  /-- the second factor of the low-rank update -/
  xb : Vec F S1x40x256 .bf16
  /-- the left operand of group `g` -/
  lrow : ℕ → Vec F S128x256 .bf16

variable (I : Inputs F)

/-- The weight scales as the visit keeps them. -/
def wPieces : List (View.Piece (Elt F) S224x2x256 .bf16) :=
  [⟨Rect.unit ![0, 0, 0] S224x2x256.size inb_S224x2x256_S224x2x256_0_0_0, k0_pay5 I.xw⟩]

/-- Row `n` of the weight scales. -/
def wrow (n : ℕ) : Vec F S1x2x256 .bf16 := I.v9.readCov (wPieces I) (wRect n).toLoadRect

/-- The product of group `g`. -/
def y (g : ℕ) : FVec F S128x256 .f32 :=
  product g (I.lrow g) (unpacked (I.xq (g / 2))) (wrow I) (k0_pay6 I.xb)

/-- The group products written before group `n`. -/
def yPieces : ℕ → List (View.Piece (Elt F) S2048x256 .f32)
  | 0 => []
  | n + 1 => ⟨yRect n, shapeCast S128x256 (y I n) shapeCasts_S128x256_S128x256⟩ :: yPieces n

/-- The first `n` stores of partial maxima. -/
def pmPieces : ℕ → List (View.Piece (Elt F) S2x128x128 .f32)
  | 0 => []
  | n + 1 => ⟨pmRect n, pmPart (y I (n / 2)) n⟩ :: pmPieces n

/-- The scales of the eight groups of `k / 2`, half `k % 2`. -/
def scale (k : ℕ) : FVec F S8x128 .f32 :=
  scaleOf (colMax (fun j => I.v11.readCov (pmPieces I (16 * (k / 2 + 1))) (pmLoad (k / 2) (k % 2) j)) 7)

/-- The first `n` stores of reciprocal scales. -/
def rPieces : ℕ → List (View.Piece (Elt F) S56x256 .f32)
  | 0 => []
  | n + 1 => ⟨sRect n, shapeCast S8x128 (divf (broadcast S8x128 (Scalar.ofBits .f32 0x3F800000#32)) (scale I n))
      shapeCasts_S8x128_S8x128⟩ :: rPieces n

/-- The first `n` stores of scales. -/
def sPieces : ℕ → List (View.Piece (Elt F) S56x256 .f32)
  | 0 => []
  | n + 1 => ⟨sRect n, shapeCast S8x128 (scale I n) shapeCasts_S8x128_S8x128⟩ :: sPieces n

/-- The product of group `g` as it is read back, at the time its tile is requantised. -/
def yload (g : ℕ) : Vec F S128x256 .f32 :=
  I.v10.readCov (yPieces I (min (2 * (g / 2 + 5)) 56)) (yRect g).toLoadRect

/-- The reciprocal scales of group `g` as they are read back. -/
def rload (g : ℕ) : Vec F S1x256 .f32 := I.v12.readCov (rPieces I (2 * (g / 8 + 1))) (rRect g).toLoadRect

/-- The packed codes of tile `t`. -/
def out (t : ℕ) : IVec S1x256x128 8 :=
  tile (packed (quant (yload I (2 * t)) (rload I (2 * t))))
    (packed (quant (yload I (2 * t + 1)) (rload I (2 * t + 1))))

/-- The first `n` stores of packed codes. -/
def oPieces : ℕ → List (View.Piece (Elt F) S1x256x3584 .i8)
  | 0 => []
  | n + 1 => ⟨oRect n, out I n⟩ :: oPieces n

/-- The store of the scales of the block. -/
def cPieces : List (View.Piece (Elt F) S1x56x256 .bf16) :=
  [⟨Rect.unit ![0, 0, 0] ![1, 56, 256] inb_S1x56x256_S1x56x256_0_0_0,
    shapeCast S1x56x256
      (truncf .bf16 (I.v13.readCov (sPieces I 14)
        (Rect.unit ![0, 0] S56x256.size inb_S56x256_S56x256_0_0).toLoadRect) bitsLt_bf16_f32)
      shapeCasts_S56x256_S1x56x256⟩]

end Visit

end Cert.KernelIdeal.Model

end
-- ==== Proof.RunsAsModel.lean ====
/-
The executed body is the model of `Proof/Model.lean`: the pieces each visit stores are, definition
by definition, the model's pieces. A visit either builds the left operands (`A`, the first visit of
a layer) or finds them built (`B`).
-/
module

public import proofs.«01_k».proof.Proof.Model
public import proofs.«01_k».proof.Proof.Gen.KernelIdeal.Frame

@[expose] public section

set_option maxRecDepth 16384

noncomputable section

namespace Cert.KernelIdeal.Model

open Idealize.ShloMosaic Idealize.SL.Sem Cert.KernelIdeal.Gen

variable {F : FTy → Type} [FloatOps F]

variable (c : Dev nD) (i : grid0.Coords)
  (arg2 : Memref sig .tc .vmem S1x256x3584 .i8) (harg2 : arg2.IsWhole)
  (arg3 : Memref sig .tc .vmem S1x224x256 .bf16) (harg3 : arg3.IsWhole)
  (arg4 : Memref sig .tc .vmem S1x40x7168 .bf16) (harg4 : arg4.IsWhole)
  (arg5 : Memref sig .tc .vmem S1x40x256 .bf16) (harg5 : arg5.IsWhole)
  (arg6 : Memref sig .tc .vmem S1x256x3584 .i8) (harg6 : arg6.IsWhole)
  (arg7 : Memref sig .tc .vmem S1x56x256 .bf16) (harg7 : arg7.IsWhole)
  (arg8 : Memref sig .tc .vmem S3584x2x256 .bf16) (harg8 : arg8.IsWhole)
  (arg9 : Memref sig .tc .vmem S224x2x256 .bf16) (harg9 : arg9.IsWhole)
  (arg10 : Memref sig .tc .vmem S2048x256 .f32) (harg10 : arg10.IsWhole)
  (arg11 : Memref sig .tc .vmem S2x128x128 .f32) (harg11 : arg11.IsWhole)
  (arg12 : Memref sig .tc .vmem S56x256 .f32) (harg12 : arg12.IsWhole)
  (arg13 : Memref sig .tc .vmem S56x256 .f32) (harg13 : arg13.IsWhole)
  (x0 : Vec F S1x256x3584 .i8) (x1 : Vec F S1x224x256 .bf16) (x2 : Vec F S1x40x7168 .bf16) (x3 : Vec F S1x40x256 .bf16)
  (xs0 : Vec F S3584x2x256 .bf16)

/-- What a visit reads, as the model takes it, over the left operands `lrow`. -/
def inputs (lrow : ℕ → Vec F S128x256 .bf16) : Inputs F where
  v9 := arg9.view
  v10 := arg10.view
  v11 := arg11.view
  v12 := arg12.view
  v13 := arg13.view
  xq t := View.readAt (Elt F) arg2.view (oRect t).toLoadRect (harg2.unread x0)
  xw := View.readAt (Elt F) arg3.view
    (Rect.unit ![0, 0, 0] S1x224x256.size inb_S1x224x256_S1x224x256_0_0_0).toLoadRect (harg3.unread x1)
  xb := View.readAt (Elt F) arg5.view
    (Rect.unit ![0, 0, 0] S1x40x256.size inb_S1x40x256_S1x40x256_0_0_0).toLoadRect (harg5.unread x3)
  lrow := lrow

/-- A visit that finds the left operands built: it reads them from `xs0`. -/
def inputsB : Inputs F :=
  inputs arg2 harg2 arg3 harg3 arg5 harg5 arg9 arg10 arg11 arg12 arg13 x0 x1 x3
    (fun g => left (View.readAt (Elt F) arg8.view (lRect g).toLoadRect (harg8.unread xs0)))

/-- The stores of the loop that builds the left operands. -/
def built (hc0 : cond0_0 i) : List (View.Piece (Elt F) S3584x2x256 .bf16) :=
  pb_k0_t1 (F := F) Variants.none c none i arg2 harg2 arg3 harg3 arg4 harg4 arg5 harg5 arg6 harg6 arg7 harg7 arg8 harg8
    arg9 harg9 arg10 harg10 arg11 harg11 arg12 harg12 arg13 harg13 hc0 (harg4.unread x2)
    (Scf.trips k0_t1_loop.lb k0_t1_loop.ub k0_t1_loop.st)

/-- A visit that builds the left operands: it reads them from its own stores. -/
def inputsA (hc0 : cond0_0 i) : Inputs F :=
  inputs arg2 harg2 arg3 harg3 arg5 harg5 arg9 arg10 arg11 arg12 arg13 x0 x1 x3
    (fun g => left (arg8.view.readCov
      (built c i arg2 harg2 arg3 harg3 arg4 harg4 arg5 harg5 arg6 harg6 arg7 harg7 arg8 harg8 arg9 harg9 arg10 harg10
        arg11 harg11 arg12 harg12 arg13 harg13 x2 hc0) (lRect g).toLoadRect))

theorem runB_codes (hc0 : ¬cond0_0 i) :
    (kernelRun0_B c i arg2 harg2 arg3 harg3 arg4 harg4 arg5 harg5 arg6 harg6 arg7 harg7 arg8 harg8 arg9 harg9 arg10 harg10
      arg11 harg11 arg12 harg12 arg13 harg13 hc0 x0 x1 x2 x3 xs0).1
      = oPieces (inputsB arg2 harg2 arg3 harg3 arg5 harg5 arg8 harg8 arg9 arg10 arg11 arg12 arg13 x0 x1 x3 xs0) 28 := by
  sl_kernel_rfl

theorem runB_scales (hc0 : ¬cond0_0 i) :
    (kernelRun0_B c i arg2 harg2 arg3 harg3 arg4 harg4 arg5 harg5 arg6 harg6 arg7 harg7 arg8 harg8 arg9 harg9 arg10 harg10
      arg11 harg11 arg12 harg12 arg13 harg13 hc0 x0 x1 x2 x3 xs0).2.1
      = cPieces (inputsB arg2 harg2 arg3 harg3 arg5 harg5 arg8 harg8 arg9 arg10 arg11 arg12 arg13 x0 x1 x3 xs0) := by
  sl_kernel_rfl

theorem runA_codes (hc0 : cond0_0 i) :
    (kernelRun0_A c i arg2 harg2 arg3 harg3 arg4 harg4 arg5 harg5 arg6 harg6 arg7 harg7 arg8 harg8 arg9 harg9 arg10 harg10
      arg11 harg11 arg12 harg12 arg13 harg13 hc0 x0 x1 x2 x3).1
      = oPieces (inputsA c i arg2 harg2 arg3 harg3 arg4 harg4 arg5 harg5 arg6 harg6 arg7 harg7 arg8 harg8 arg9 harg9
          arg10 harg10 arg11 harg11 arg12 harg12 arg13 harg13 x0 x1 x2 x3 hc0) 28 := by
  sl_kernel_rfl

theorem runA_scales (hc0 : cond0_0 i) :
    (kernelRun0_A c i arg2 harg2 arg3 harg3 arg4 harg4 arg5 harg5 arg6 harg6 arg7 harg7 arg8 harg8 arg9 harg9 arg10 harg10
      arg11 harg11 arg12 harg12 arg13 harg13 hc0 x0 x1 x2 x3).2.1
      = cPieces (inputsA c i arg2 harg2 arg3 harg3 arg4 harg4 arg5 harg5 arg6 harg6 arg7 harg7 arg8 harg8 arg9 harg9
          arg10 harg10 arg11 harg11 arg12 harg12 arg13 harg13 x0 x1 x2 x3 hc0) := by
  sl_kernel_rfl

theorem runA_built (hc0 : cond0_0 i) :
    (kernelRun0_A c i arg2 harg2 arg3 harg3 arg4 harg4 arg5 harg5 arg6 harg6 arg7 harg7 arg8 harg8 arg9 harg9 arg10 harg10
      arg11 harg11 arg12 harg12 arg13 harg13 hc0 x0 x1 x2 x3).2.2.1
      = built c i arg2 harg2 arg3 harg3 arg4 harg4 arg5 harg5 arg6 harg6 arg7 harg7 arg8 harg8 arg9 harg9
          arg10 harg10 arg11 harg11 arg12 harg12 arg13 harg13 x2 hc0 := by
  sl_kernel_rfl

end Cert.KernelIdeal.Model

end
-- ==== Proof.ReadBack.lean ====
/-
What the model's loads read back: which of the stores before a load holds the element it reads.
-/
module

public import proofs.«01_k».proof.Proof.Model
public import Idealize.ShloMosaic.Lib.Pipeline.FrameBody
public import Idealize.ShloMosaic.Lib.Pipeline.Value
public import Idealize.ShloMosaic.Lib.Pipeline.ValueKit.Tiles
public import Idealize.ShloMosaic.Lib.PointwiseCore

@[expose] public section

set_option maxRecDepth 16384

noncomputable section

namespace Cert.KernelIdeal.Model

open Idealize.ShloMosaic Idealize.SL.Sem Cert.KernelIdeal.Gen

/-- The element a numbered list of stores leaves is that of store `k` when store `k` holds it and no
    later store does. -/
theorem canon_of_latest {Val : EltTy → Type} [∀ e, Nonempty (Val e)] {s : Shape} {e : EltTy} (R : ℕ → Rect s)
    (f : ∀ n, (R n).shape.Idx → Val e) (P : ℕ → List (View.Piece Val s e)) (hP : ∀ n, P (n + 1) = ⟨R n, f n⟩ :: P n)
    (y : s.Idx) (k : ℕ) (j : (R k).shape.Idx) (hy : (R k).emb j = y) :
    ∀ n, k < n → (∀ k', k < k' → k' < n → y ∉ (R k').set) → View.canon (P n) y = f k j
  | 0, hk, _ => absurd hk (Nat.not_lt_zero k)
  | n + 1, hk, hd => by
    rw [hP n]
    by_cases h : k = n
    · subst h; rw [← hy]; exact View.canon_cons_emb _ _ _ _
    · rw [View.canon_cons_of_not_mem _ _ (hd n (by omega) (by omega))]
      exact canon_of_latest R f P hP y k j hy n (by omega) fun k' h1 h2 => hd k' h1 (by omega)

variable {F : FTy → Type} [FloatOps F] (I : Inputs F)

/-- Row `n` of the weight scales, at a column. -/
theorem wrow_apply (n : ℕ) (hn : n < 224) (q : Fin 2) (l : Fin 256) :
    wrow I n (ix3 0 q l) = k0_pay5 I.xw (ix3 ⟨n, hn⟩ q l) := by
  unfold wrow wPieces
  rw [View.readCov_eq_canon']
  have e : (wRect n).toLoadRect.idx (ix3 0 q l)
      = (Rect.unit ![0, 0, 0] S224x2x256.size inb_S224x2x256_S224x2x256_0_0_0).emb (ix3 ⟨n, hn⟩ q l) := by
    funext a; apply Fin.ext
    fin_cases a
    · show n % 224 + 1 * 0 = 0 + 1 * n; omega
    · rfl
    · rfl
  exact (congrArg _ e).trans (View.canon_cons_emb _ _ _ _)

/-- The product of a group is read back as it was stored. -/
theorem yload_eq (g : ℕ) (hg : g < 56) : yload I g = shapeCast S128x256 (y I g) shapeCasts_S128x256_S128x256 := by
  unfold yload
  rw [View.readCov_eq_canon']
  funext j
  refine canon_of_latest yRect (fun n => shapeCast S128x256 (y I n) shapeCasts_S128x256_S128x256) (yPieces I)
    (fun n => rfl) ((yRect g).emb j) g j rfl (min (2 * (g / 2 + 5)) 56) (by omega) fun k' h1 h2 hm => ?_
  have h3 := (Rect.mem_set_unit.mp hm) 0
  have h4 : 128 * (k' % 16) ≤ 128 * (g % 16) + 1 * (j 0).val := h3.1
  have h5 : 128 * (g % 16) + 1 * (j 0).val < 128 * (k' % 16) + 128 := h3.2
  have h6 : (j 0).val < 128 := (j 0).isLt
  omega

theorem pmPart_parity (z : FVec F S128x256 .f32) (k k' : ℕ) (h : k % 2 = k' % 2) : pmPart z k = pmPart z k' := by
  have e : ∀ o o' (ho : S8x256.Slices ![0, o] S8x128) (ho' : S8x256.Slices ![0, o'] S8x128), o = o' →
      extractStridedSlice S8x128 ![0, o] (rowMax z 15) ho = extractStridedSlice S8x128 ![0, o'] (rowMax z 15) ho' := by
    rintro o _ _ _ rfl; rfl
  unfold pmPart
  rw [e _ _ _ _ (show 128 * (k % 2) = 128 * (k' % 2) by rw [h])]

/-- A partial maximum as the scales of its eight groups read it. -/
theorem pmLoad_apply (sg c j : ℕ) (hsg : sg < 7) (hc : c < 2) (hj : j < 8) (a : Fin 8) (l : Fin 128) :
    I.v11.readCov (pmPieces I (16 * (sg + 1))) (pmLoad sg c j) (ix3 0 a l)
      = pmPart (y I (8 * sg + a.val)) c (ix3 0 ⟨j, hj⟩ l) := by
  rw [View.readCov_eq_canon']
  have ha := a.isLt
  have hl := l.isLt
  have e : pmPart (y I (8 * sg + a.val)) c (ix3 0 ⟨j, hj⟩ l)
      = (fun n => pmPart (y I (n / 2)) n) (2 * (8 * sg + a.val) + c) (ix3 0 ⟨j, hj⟩ l) := by
    show _ = pmPart (y I ((2 * (8 * sg + a.val) + c) / 2)) (2 * (8 * sg + a.val) + c) (ix3 0 ⟨j, hj⟩ l)
    rw [show (2 * (8 * sg + a.val) + c) / 2 = 8 * sg + a.val by omega]
    exact congrFun (pmPart_parity _ _ _ (by omega)) _
  rw [e]
  refine canon_of_latest pmRect (fun n => pmPart (y I (n / 2)) n) (pmPieces I)
    (fun n => rfl) _ (2 * (8 * sg + a.val) + c) (ix3 0 ⟨j, hj⟩ l) ?_ _ (by omega) fun k' h1 h2 hm => ?_
  · funext b; apply Fin.ext
    fin_cases b
    · show (2 * (8 * sg + a.val) + c) % 2 + 1 * 0 = c % 2 + 1 * 0; omega
    · show 8 * (((2 * (8 * sg + a.val) + c) / 2) % 16) + 1 * j = 64 * (sg % 2) + j % 8 + 8 * a.val; omega
    · rfl
  · have h0 := (Rect.mem_set_unit.mp hm) 0
    have h3 := (Rect.mem_set_unit.mp hm) 1
    have h4 : k' % 2 ≤ c % 2 + 1 * 0 := h0.1
    have h5 : c % 2 + 1 * 0 < k' % 2 + 1 := h0.2
    have h6 : 8 * ((k' / 2) % 16) ≤ 64 * (sg % 2) + j % 8 + 8 * a.val := h3.1
    have h7 : 64 * (sg % 2) + j % 8 + 8 * a.val < 8 * ((k' / 2) % 16) + 8 := h3.2
    omega

/-- The stores of a block of group scales, at row `g` and column `l`: the payload `f` of store
    `2 * (g / 8) + l / 128`. -/
theorem sCanon (f : ℕ → FVec F S8x128 .f32) (P : ℕ → List (View.Piece (Elt F) S56x256 .f32))
    (hP : ∀ n, P (n + 1) = ⟨sRect n, f n⟩ :: P n) (g : Fin 56) (l : Fin 256) (n : ℕ) (hn : 2 * (g.val / 8 + 1) ≤ n)
    (hn' : n ≤ 14) :
    View.canon (P n) (ix2 g l)
      = f (2 * (g.val / 8) + l.val / 128) (ix2 ⟨g.val % 8, Nat.mod_lt _ (by omega)⟩ ⟨l.val % 128, Nat.mod_lt _ (by omega)⟩) := by
  have hg := g.isLt
  have hl := l.isLt
  refine canon_of_latest sRect f P hP _ (2 * (g.val / 8) + l.val / 128)
    (ix2 ⟨g.val % 8, Nat.mod_lt _ (by omega)⟩ ⟨l.val % 128, Nat.mod_lt _ (by omega)⟩) ?_ _ (by omega) fun k' h1 h2 hm => ?_
  · funext b; apply Fin.ext
    fin_cases b
    · show 8 * (((2 * (g.val / 8) + l.val / 128) / 2) % 7) + 1 * (g.val % 8) = g.val; omega
    · show 128 * ((2 * (g.val / 8) + l.val / 128) % 2) + 1 * (l.val % 128) = l.val; omega
  · have h0 := (Rect.mem_set_unit.mp hm) 0
    have h3 := (Rect.mem_set_unit.mp hm) 1
    have h4 : 8 * ((k' / 2) % 7) ≤ g.val := h0.1
    have h5 : g.val < 8 * ((k' / 2) % 7) + 8 := h0.2
    have h6 : 128 * (k' % 2) ≤ l.val := h3.1
    have h7 : l.val < 128 * (k' % 2) + 128 := h3.2
    omega

/-- The scale of group `g` at column `l`. -/
def scaleAt (g : Fin 56) (l : Fin 256) : F .f32 :=
  scale I (2 * (g.val / 8) + l.val / 128)
    (ix2 ⟨g.val % 8, Nat.mod_lt _ (by omega)⟩ ⟨l.val % 128, Nat.mod_lt _ (by omega)⟩)

/-- The reciprocal scale of a group as it is read back. -/
theorem rload_apply (g : Fin 56) (l : Fin 256) :
    rload I g.val (ix2 0 l) = FloatOps.divf (Scalar.ofBits .f32 0x3F800000#32) (scaleAt I g l) := by
  unfold rload
  rw [View.readCov_eq_canon']
  have hg := g.isLt
  have e : (rRect g.val).toLoadRect.idx (ix2 0 l) = ix2 g l := by
    funext a; apply Fin.ext
    fin_cases a
    · show g.val % 56 + 1 * 0 = g.val; omega
    · show 0 + 1 * l.val = l.val; omega
  have h := sCanon (fun n => shapeCast S8x128 (divf (broadcast S8x128 (Scalar.ofBits .f32 0x3F800000#32)) (scale I n))
      shapeCasts_S8x128_S8x128) (rPieces I) (fun n => rfl) g l (2 * (g.val / 8 + 1)) (le_refl _) (by omega)
  refine (congrArg _ e).trans (h.trans ?_)
  rw [shapeCast_self]
  rfl

theorem cCast (X : FVec F S56x256 .f32) (g : Fin 56) (l : Fin 256) :
    shapeCast S1x56x256 (truncf .bf16 X bitsLt_bf16_f32) shapeCasts_S56x256_S1x56x256 (ix3 0 g l)
      = FloatOps.truncf .bf16 bitsLt_bf16_f32 (X (ix2 g l)) := by
  pointwise

/-- What the visit leaves in its block of scales. -/
theorem cCanon (g : Fin 56) (l : Fin 256) :
    View.canon (cPieces I) (ix3 0 g l) = FloatOps.truncf .bf16 bitsLt_bf16_f32 (scaleAt I g l) := by
  unfold cPieces
  have e : (ix3 0 g l : S1x56x256.Idx)
      = (Rect.unit ![0, 0, 0] ![1, 56, 256] inb_S1x56x256_S1x56x256_0_0_0 : Rect S1x56x256).emb (ix3 0 g l) := by
    funext a; apply Fin.ext
    fin_cases a
    · rfl
    · show g.val = 0 + 1 * g.val; omega
    · show l.val = 0 + 1 * l.val; omega
  refine (congrArg _ e).trans ((View.canon_cons_emb _ _ _ _).trans ?_)
  rw [View.readCov_eq_canon']
  have h := sCanon (fun n => shapeCast S8x128 (scale I n) shapeCasts_S8x128_S8x128) (sPieces I) (fun n => rfl) g l 14
    (by omega) (le_refl _)
  have e2 : ((Rect.unit ![0, 0] S56x256.size inb_S56x256_S56x256_0_0 : Rect S56x256).toLoadRect.idx (ix2 g l)) = ix2 g l := by
    funext a; apply Fin.ext
    fin_cases a
    · show 0 + 1 * g.val = g.val; omega
    · show 0 + 1 * l.val = l.val; omega
  refine (cCast _ g l).trans (congrArg (fun z => FloatOps.truncf (F := F) .bf16 bitsLt_bf16_f32 z) ?_)
  show View.canon (sPieces I 14) _ = _
  rw [e2, h, shapeCast_self]
  rfl

/-- What the visit leaves in its block of packed codes. -/
theorem oCanon (t : Fin 28) (n : Fin 256) (p : Fin 128) :
    View.canon (oPieces I 28) (ix3 0 n ⟨128 * t.val + p.val, by omega⟩) = out I t.val (ix3 0 n p) := by
  have ht := t.isLt
  refine canon_of_latest oRect (out I) (oPieces I) (fun n => rfl) _ t.val (ix3 0 n p) ?_ _ t.isLt fun k' h1 h2 hm => ?_
  · funext b; apply Fin.ext
    fin_cases b
    · rfl
    · show 0 + 1 * n.val = n.val; omega
    · show 128 * (t.val % 28) + 1 * p.val = 128 * t.val + p.val; omega
  · have h0 := (Rect.mem_set_unit.mp hm) 2
    have h4 : 128 * (k' % 28) ≤ 128 * t.val + p.val := h0.1
    have hp := p.isLt
    omega

end Cert.KernelIdeal.Model

end
-- ==== Proof.Extended.lean ====
/-
Extended-real arithmetic: the three-term splitting of the low-rank factor, and equality up to the
sign of an infinity.

The kernel multiplies `hi + mid + lo` with `hi = x`, `mid = x - x`, `lo = (x - x) - (x - x)`
(exact numbers need no rounding, so `mid` and `lo` only carry something when `x` is infinite). For a
real `x` the three products sum to `x * b`. For an infinite `x` the sum is infinite whenever `x * b`
is, but the sign can differ. `Rel` says exactly that. It is enough for the requantiser: only the
absolute value enters a scale, and a group with an infinite entry has an infinite scale, so that
every code of that group is 0 whatever the signs are.
-/
module

public import Mathlib.Data.EReal.Inv
public import Mathlib.Algebra.BigOperators.Fin

@[expose] public section

namespace Cert.Extended

/-- `x` is one of the two infinities. -/
def Inf (x : EReal) : Prop := x = ⊤ ∨ x = ⊥

/-- `x` and `y` are equal, or both infinite. -/
def Rel (x y : EReal) : Prop := x = y ∨ (Inf x ∧ Inf y)

theorem Rel.refl (x : EReal) : Rel x x := Or.inl rfl

theorem Inf.add_left {x : EReal} (h : Inf x) (y : EReal) : Inf (x + y) := by
  rcases h with rfl | rfl
  · induction y with
    | bot => exact Or.inr (EReal.add_bot ⊤)
    | coe y => exact Or.inl (EReal.top_add_coe y)
    | top => exact Or.inl rfl
  · exact Or.inr (EReal.bot_add y)

theorem Inf.add_right {x : EReal} (h : Inf x) (y : EReal) : Inf (y + x) := add_comm x y ▸ h.add_left y

theorem Rel.add {a b c d : EReal} (h : Rel a b) (k : Rel c d) : Rel (a + c) (b + d) := by
  rcases h with rfl | ⟨ha, hb⟩
  · rcases k with rfl | ⟨hc, hd⟩
    · exact Or.inl rfl
    · exact Or.inr ⟨hc.add_right a, hd.add_right a⟩
  · exact Or.inr ⟨ha.add_left c, hb.add_left d⟩

theorem Rel.sum {ι : Type} (s : Finset ι) {f g : ι → EReal} (h : ∀ i, Rel (f i) (g i)) :
    Rel (∑ i ∈ s, f i) (∑ i ∈ s, g i) := by
  classical
  induction s using Finset.induction_on with
  | empty => exact Rel.refl _
  | insert i s hi ih => rw [Finset.sum_insert hi, Finset.sum_insert hi]; exact (h i).add ih

theorem Inf.abs {x : EReal} (h : Inf x) : max x (-x) = ⊤ := by
  rcases h with rfl | rfl <;> simp

theorem Rel.abs {x y : EReal} (h : Rel x y) : max x (-x) = max y (-y) := by
  rcases h with rfl | ⟨hx, hy⟩
  · rfl
  · rw [hx.abs, hy.abs]

theorem mul_inf {x b : EReal} (h : Inf x) (hb : b ≠ 0) : Inf (x * b) := by
  rcases lt_or_gt_of_ne hb with hb | hb <;> rcases h with rfl | rfl
  · exact Or.inr (EReal.top_mul_of_neg hb)
  · exact Or.inl (EReal.bot_mul_of_neg hb)
  · exact Or.inl (EReal.top_mul_of_pos hb)
  · exact Or.inr (EReal.bot_mul_of_pos hb)

/-- The split product is the product, up to the sign of an infinity. -/
theorem split_mul (x b : EReal) :
    Rel (x * b + ((x - x) * b + ((x - x) - (x - x)) * b)) (x * b) := by
  by_cases hb : b = 0
  · subst hb; simp [Rel]
  · by_cases hx : Inf x
    · exact Or.inr ⟨(mul_inf hx hb).add_left _, mul_inf hx hb⟩
    · induction x with
      | bot => exact absurd (Or.inr rfl) hx
      | top => exact absurd (Or.inl rfl) hx
      | coe x =>
        left
        have h0 : ((x : EReal) - (x : EReal)) = 0 := by rw [← EReal.coe_sub, sub_self, EReal.coe_zero]
        rw [h0]; simp

/-- A nonnegative real factor distributes over a sum of extended reals. -/
theorem mul_sum {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert i s hi ih =>
    rw [Finset.sum_insert hi, Finset.sum_insert hi, EReal.left_distrib_of_nonneg_of_ne_top h0 ht, ih]

/-- The low-rank update of one entry: the three split sums against `c` times the plain sum. -/
theorem update (n : ℕ) (c : EReal) (h0 : 0 ≤ c) (ht : c ≠ ⊤) (a b : Fin n → EReal) :
    Rel ((∑ r, (a r * c) * b r) + ((∑ r, (a r * c - a r * c) * b r)
        + ∑ r, ((a r * c - a r * c) - (a r * c - a r * c)) * b r))
      (c * ∑ r, b r * a r) := by
  rw [mul_sum _ c h0 ht, ← Finset.sum_add_distrib, ← Finset.sum_add_distrib]
  have e : ∀ r, c * (b r * a r) = (a r * c) * b r := fun r => by
    rw [mul_comm (b r), ← mul_assoc, mul_comm c]
  simp only [e]
  exact Rel.sum _ fun r => split_mul _ _

end Cert.Extended
-- ==== Proof.Product.lean ====
/-
The product of one group over the extended reals, entry by entry.
-/
module

public import proofs.«01_k».proof.Proof.ReadBack
public import proofs.«01_k».proof.Proof.Extended
public import Idealize.ShloMosaic.Lib.Pointwise

@[expose] public section

set_option maxRecDepth 16384

noncomputable section

namespace Cert.KernelIdeal.Model

open Idealize.ShloMosaic Idealize.SL.Sem Cert.KernelIdeal.Gen

theorem of_dite {α : Type} {p : Prop} [Decidable p] {a : p → α} {b : ¬p → α} {r : α}
    (ha : ∀ h, a h = r) (hb : ∀ h, b h = r) : dite p a b = r := by
  split
  · exact ha _
  · exact hb _

/-- The four bits of a byte, low (`k` even) or high (`k` odd), as a signed integer. -/
def nibble (b : BitVec 8) (k : ℕ) : BitVec 32 :=
  if k % 2 = 0 then (b.setWidth 32 <<< 28).sshiftRight 28 else (b.setWidth 32 <<< 24).sshiftRight 28

theorem nibble_narrow (b : BitVec 8) (k : ℕ) : ((nibble b k).setWidth 4).toInt = (nibble b k).toInt := by
  have h : ∀ b : BitVec 8, (((b.setWidth 32 <<< 28).sshiftRight 28).setWidth 4).toInt = ((b.setWidth 32 <<< 28).sshiftRight 28).toInt
      ∧ (((b.setWidth 32 <<< 24).sshiftRight 28).setWidth 4).toInt = ((b.setWidth 32 <<< 24).sshiftRight 28).toInt := by
    decide +kernel
  unfold nibble
  split
  · exact (h b).1
  · exact (h b).2

/-- The unpacked codes of a tile: row `κ` is the low or high half of byte `κ / 2`. -/
theorem codes_apply (x : Vec Ideal S1x256x128 .i8) (κ n : Fin 256) :
    unpacked x (ix2 κ n) = (((nibble (x (ix3 0 n ⟨κ.val / 2, by omega⟩)) κ.val).toInt : ℝ) : EReal) := by
  rw [← nibble_narrow]
  unfold unpacked k0_pay8 k0_pay7
  pointwise
  refine congrArg (fun v : BitVec 32 => (((v.setWidth 4).toInt : ℝ) : EReal)) ?_
  unfold nibble
  refine of_dite (fun h => ?_) (fun h => ?_)
  · exact (if_pos (by omega : κ.val % 2 = 0)).symm
  · exact (if_neg (by omega : ¬κ.val % 2 = 0)).symm

/-- The three copies of the second low-rank factor, and eight rows of zeros. -/
theorem factors_apply (x : Vec Ideal S1x40x256 .bf16) (r : Fin 128) (n : Fin 256) :
    k0_pay6 x (ix2 r n) = if h : r.val < 120 then x (ix3 0 ⟨r.val % 40, Nat.mod_lt _ (by omega)⟩ n) else 0 := by
  unfold k0_pay6
  pointwise
  have same : ∀ (k : ℕ) (hk : k < 40), r.val < 120 → k = r.val % 40 →
      x (ix3 0 ⟨k, hk⟩ n) = if h : r.val < 120 then x (ix3 0 ⟨r.val % 40, Nat.mod_lt _ (by omega)⟩ n) else 0 := by
    intro k hk h e
    subst e
    rw [dif_pos h]
  refine of_dite (fun h => same _ h (by omega) (by omega)) fun _ => ?_
  refine of_dite (fun h => same _ h (by omega) (by omega)) fun _ => ?_
  refine of_dite (fun h => same _ h (by omega) (by omega)) fun _ => ?_
  have none : ¬r.val < 120 → (0 : EReal) = if h : r.val < 120 then x (ix3 0 ⟨r.val % 40, Nat.mod_lt _ (by omega)⟩ n) else 0 :=
    fun h => by rw [dif_neg h]
  exact none (by omega)

theorem stretch_apply (p : Fin 2) (w : Vec Ideal S1x2x256 .bf16) (j : Fin 8) (n : Fin 256) :
    stretch p w (ix2 j n) = w (ix3 0 p n) := by
  fin_cases p
  · unfold stretch
    pointwise
    simp only [dite_eq_ite, ite_self]
  · unfold stretch
    pointwise
    simp only [dite_eq_ite, ite_self]

theorem interleave_apply (lo hi : FVec Ideal S8x256 .bf16) (j : Fin 16) (n : Fin 256) :
    interleaveRows S16x256 lo hi bitcasts_S16x256_w16_S8x256_w32 (ix2 j n)
      = if j.val % 2 = 0 then lo (ix2 ⟨j.val / 2, by omega⟩ n) else hi (ix2 ⟨j.val / 2, by omega⟩ n) := by
  pointwise

/-- The two halves of a word of scales are both the scale of its row. -/
theorem wide_apply (w : Vec Ideal S1x2x256 .bf16) (j : Fin 16) (n : Fin 256) :
    wide w (ix2 j n) = w (ix3 0 ⟨j.val % 2, Nat.mod_lt _ (by omega)⟩ n) := by
  unfold wide
  rw [interleave_apply, stretch_apply, stretch_apply]
  rcases Nat.mod_two_eq_zero_or_one j.val with h | h
  · rw [if_pos h]
    exact congrArg (fun q => w (ix3 0 q n)) (Fin.ext h.symm)
  · rw [if_neg (by omega)]
    exact congrArg (fun q => w (ix3 0 q n)) (Fin.ext h.symm)

/-- The left operand of a group: row `ρ` is half `ρ % 2` of row `ρ / 2` of its words. -/
theorem left_words (x : Vec Ideal S64x2x256 .bf16) (ρ : Fin 128) (k : Fin 256) :
    left x (ix2 ρ k) = x (ix3 ⟨ρ.val / 2, by omega⟩ ⟨ρ.val % 2, Nat.mod_lt _ (by omega)⟩ k) := by
  unfold left
  pointwise
  rcases Nat.mod_two_eq_zero_or_one ρ.val with h | h
  · rw [if_pos h]
    exact congrArg (fun q => x (ix3 _ q k)) (Fin.ext h.symm)
  · rw [if_neg (by omega)]
    exact congrArg (fun q => x (ix3 _ q k)) (Fin.ext h.symm)

theorem scaled_apply (codes : FVec Ideal S256x256 .bf16) (w : Vec Ideal S1x2x256 .bf16) (o : ℕ) (h : o + 16 ≤ 256)
    (j : Fin 16) (n : Fin 256) :
    scaled codes w o h (ix2 j n) = codes (ix2 ⟨o + j.val, by omega⟩ n) * w (ix3 0 ⟨j.val % 2, Nat.mod_lt _ (by omega)⟩ n) := by
  unfold scaled
  pointwise
  rw [wide_apply]

/-- The right operand of a group's product: 128 rows of weights above 128 rows of factors. -/
def rhs (g : ℕ) (codes : FVec Ideal S256x256 .bf16) (w : ℕ → Vec Ideal S1x2x256 .bf16) (b : FVec Ideal S128x256 .bf16)
    (n : Fin 256) (k : ℕ) : EReal :=
  if k < 128 then codes (ix2 ⟨(128 * (g % 2) + k) % 256, Nat.mod_lt _ (by omega)⟩ n) * w (4 * g + k / 32) (ix3 0 ⟨k % 2, Nat.mod_lt _ (by omega)⟩ n)
  else b (ix2 ⟨(k - 128) % 128, Nat.mod_lt _ (by omega)⟩ n)

theorem product_apply (g : ℕ) (lhs : Vec Ideal S128x256 .bf16) (codes : FVec Ideal S256x256 .bf16)
    (w : ℕ → Vec Ideal S1x2x256 .bf16) (b : FVec Ideal S128x256 .bf16) (ρ : Fin 128) (n : Fin 256) :
    product g lhs codes w b (ix2 ρ n) = ∑ k : Fin 256, lhs (ix2 ρ k) * rhs g codes w b n k.val := by
  unfold product
  pointwise [dot_S128x256_S256x256_S128x256_1_0_0_1_n_n]
  refine Finset.sum_congr rfl fun k _ => congrArg (lhs (ix2 ρ k) * ·) ?_
  have low : ∀ (q o : ℕ) (hq : q < 4) (h : 128 * (g % 2) + o + 16 ≤ 256) (hk : k.val - o < 16),
      o ≤ k.val → o + 16 ≤ 128 → o / 32 = q → o % 16 = 0 →
      scaled codes (w (4 * g + q)) (128 * (g % 2) + o) h (ix2 ⟨k.val - o, hk⟩ n) = rhs g codes w b n k.val := by
    intro q o hq h hk h1 h2 h3 h4
    rw [scaled_apply, rhs, if_pos (by omega)]
    have e1 : 4 * g + q = 4 * g + k.val / 32 := by omega
    have e2 : (k.val - o) % 2 = k.val % 2 := by omega
    rw [e1]
    simp only [e2]
    exact congrArg (fun i => codes (ix2 i n) * w (4 * g + k.val / 32) (ix3 0 ⟨k.val % 2, Nat.mod_lt _ (by omega)⟩ n))
      (Fin.ext (by simp only; omega))
  simp only [Nat.sub_sub, Nat.reduceAdd]
  refine of_dite (fun h => low 0 0 (by omega) (by omega) (by omega) (by omega) (by omega) (by omega) (by omega)) fun _ => ?_
  refine of_dite (fun h => low 0 16 (by omega) (by omega) (by omega) (by omega) (by omega) (by omega) (by omega)) fun _ => ?_
  refine of_dite (fun h => low 1 32 (by omega) (by omega) (by omega) (by omega) (by omega) (by omega) (by omega)) fun _ => ?_
  refine of_dite (fun h => low 1 48 (by omega) (by omega) (by omega) (by omega) (by omega) (by omega) (by omega)) fun _ => ?_
  refine of_dite (fun h => low 2 64 (by omega) (by omega) (by omega) (by omega) (by omega) (by omega) (by omega)) fun _ => ?_
  refine of_dite (fun h => low 2 80 (by omega) (by omega) (by omega) (by omega) (by omega) (by omega) (by omega)) fun _ => ?_
  refine of_dite (fun h => low 3 96 (by omega) (by omega) (by omega) (by omega) (by omega) (by omega) (by omega)) fun _ => ?_
  refine of_dite (fun h => low 3 112 (by omega) (by omega) (by omega) (by omega) (by omega) (by omega) (by omega)) fun _ => ?_
  refine Eq.trans ?_ (if_neg (by omega) : rhs g codes w b n k.val = _).symm
  exact congrArg (fun i => b (ix2 i n)) (Fin.ext (by simp only; omega))

/-- A sum of 256 terms, in the five parts of the product's inner dimension. -/
theorem sum_parts (f : ℕ → EReal) : ∑ k : Fin 256, f k.val =
    ∑ k : Fin 128, f k.val + (∑ r : Fin 40, f (128 + r.val) + (∑ r : Fin 40, f (168 + r.val)
      + (∑ r : Fin 40, f (208 + r.val) + ∑ r : Fin 8, f (248 + r.val)))) := by
  simp only [Fin.sum_univ_eq_sum_range (fun k => f k), Fin.sum_univ_eq_sum_range (fun k => f (128 + k)),
    Fin.sum_univ_eq_sum_range (fun k => f (168 + k)), Fin.sum_univ_eq_sum_range (fun k => f (208 + k)),
    Fin.sum_univ_eq_sum_range (fun k => f (248 + k))]
  rw [show 256 = 128 + (40 + (40 + (40 + 8))) from rfl, Finset.sum_range_add, Finset.sum_range_add, Finset.sum_range_add,
    Finset.sum_range_add]
  simp only [← Nat.add_assoc, Nat.reduceAdd]

/-- The entry `(ρ, k)` of the left operand of a group: the identity, then the scaled first factor in
    three parts, then zeros. `a r` is the factor, `c` what it is scaled by. -/
def lentry (a : Fin 40 → EReal) (c : EReal) (ρ k : ℕ) : EReal :=
  if k < 128 then (if ρ = k then 1 else 0)
  else if h : k - 128 < 40 then a ⟨k - 128, h⟩ * c
  else if h : k - 168 < 40 then a ⟨k - 168, h⟩ * c - a ⟨k - 168, h⟩ * c
  else if h : k - 208 < 40 then
    (a ⟨k - 208, h⟩ * c - a ⟨k - 208, h⟩ * c) - (a ⟨k - 208, h⟩ * c - a ⟨k - 208, h⟩ * c)
  else 0

/-- One entry of a group's product is the weight plus the low-rank update, up to the sign of an
    infinite entry. -/
theorem entry_rel (a b : Fin 40 → EReal) (c : EReal) (h0 : 0 ≤ c) (ht : c ≠ ⊤) (ρ : Fin 128) (R : ℕ → EReal)
    (hb : ∀ r : Fin 40, ∀ p : ℕ, p < 3 → R (128 + 40 * p + r.val) = b r) :
    Extended.Rel (∑ k : Fin 256, lentry a c ρ.val k.val * R k.val) (R ρ.val + c * ∑ r, b r * a r) := by
  rw [sum_parts (fun k => lentry a c ρ.val k * R k)]
  have e0 : ∑ k : Fin 128, lentry a c ρ.val k.val * R k.val = R ρ.val := by
    rw [Finset.sum_eq_single ρ]
    · rw [lentry, if_pos ρ.isLt, if_pos rfl, one_mul]
    · intro k _ hk
      rw [lentry, if_pos k.isLt, if_neg (fun h => hk (Fin.ext h.symm)), zero_mul]
    · exact fun h => absurd (Finset.mem_univ _) h
  have e1 : ∀ r : Fin 40, lentry a c ρ.val (128 + r.val) * R (128 + r.val) = (a r * c) * b r := fun r => by
    rw [lentry, if_neg (by omega), dif_pos (by omega), hb r 0 (by omega)]
    simp only [Nat.add_sub_cancel_left]
  have e2 : ∀ r : Fin 40, lentry a c ρ.val (168 + r.val) * R (168 + r.val) = (a r * c - a r * c) * b r := fun r => by
    rw [lentry, if_neg (by omega), dif_neg (by omega), dif_pos (by omega), hb r 1 (by omega)]
    simp only [Nat.add_sub_cancel_left]
  have e3 : ∀ r : Fin 40, lentry a c ρ.val (208 + r.val) * R (208 + r.val)
      = ((a r * c - a r * c) - (a r * c - a r * c)) * b r := fun r => by
    rw [lentry, if_neg (by omega), dif_neg (by omega), dif_neg (by omega), dif_pos (by omega), hb r 2 (by omega)]
    simp only [Nat.add_sub_cancel_left]
  have e4 : ∀ r : Fin 8, lentry a c ρ.val (248 + r.val) * R (248 + r.val) = 0 := fun r => by
    rw [lentry, if_neg (by omega), dif_neg (by omega), dif_neg (by omega), dif_neg (by omega), zero_mul]
  simp only [e0, e1, e2, e3, e4, Finset.sum_const_zero, add_zero]
  exact (Extended.Rel.refl _).add (Extended.update 40 c h0 ht a b)

end Cert.KernelIdeal.Model

end
-- ==== Proof.Quantise.lean ====
/-
How one visit requantises the products of a group over the extended reals.
-/
module

public import proofs.«01_k».proof.Proof.Product

@[expose] public section

set_option maxRecDepth 16384

noncomputable section

namespace Cert.KernelIdeal.Model

open Idealize.ShloMosaic Idealize.SL.Sem Cert.KernelIdeal.Gen

/-- The absolute value. -/
def eabs (x : EReal) : EReal := max x (-x)

/-- The scale of a group whose largest absolute value is `a`. -/
def scl (a : EReal) : EReal := if a = 0 then 1 else Ideal.div a (Ideal.ofBits .f32 0x40E00000#32)

/-- The code of the quotient `x`. -/
def codeOf (x : EReal) : BitVec 32 :=
  FloatOps.fptosi (F := Ideal) (φ := .f32) 32 (min (Ideal.ofBits .f32 0x40E00000#32)
    (max (Ideal.ofBits .f32 0xC0E00000#32) (FloatOps.roundeven (F := Ideal) (φ := .f32) x)))

/-- Two codes packed into a byte. -/
def byteOf (lo hi : BitVec 32) : BitVec 8 := ((lo &&& 15#32) ||| ((hi &&& 15#32) <<< 4)).setWidth 8

theorem rowMax_le (y : FVec Ideal S128x256 .f32) (a : Fin 8) (l : Fin 256) (b : EReal) (n : ℕ) (hn : n < 16) :
    rowMax y n (ix2 a l) ≤ b ↔ ∀ j : Fin 16, j.val ≤ n → eabs (y (ix2 ⟨8 * j.val + a.val, by omega⟩ l)) ≤ b := by
  induction n with
  | zero =>
    rw [rowMax]
    pointwise
    have z : (⟨8 * (0 : Fin 16).val + a.val, by omega⟩ : Fin 128) = ⟨a.val, by omega⟩ := Fin.ext (by simp)
    refine ⟨fun h j hj => ?_, fun h => ?_⟩
    · have e : j = 0 := Fin.ext (Nat.le_zero.mp hj)
      subst e
      rw [z]
      exact h
    · have := h 0 (Nat.le_refl 0)
      rw [z] at this
      exact this
  | succ n ih =>
    rw [rowMax]
    pointwise
    rw [max_le_iff, ih (by omega)]
    have e : (n + 1) % 16 = n + 1 := by omega
    simp only [e]
    constructor
    · rintro ⟨h1, h2⟩ j hj
      by_cases hjn : j.val ≤ n
      · exact h1 j hjn
      · have e : j = ⟨n + 1, hn⟩ := Fin.ext (by simp only; omega)
        subst e
        exact h2
    · exact fun h => ⟨fun j hj => h j (by omega), h ⟨n + 1, hn⟩ (Nat.le_refl _)⟩

theorem pmPart_apply (y : FVec Ideal S128x256 .f32) (k : ℕ) (a : Fin 8) (l : Fin 128) :
    pmPart y k (ix3 0 a l) = rowMax y 15 (ix2 a ⟨128 * (k % 2) + l.val, by omega⟩) := by
  unfold pmPart
  pointwise

theorem colMax_le (p : ℕ → Vec Ideal S1x8x128 .f32) (a : Fin 8) (l : Fin 128) (b : EReal) (n : ℕ) :
    colMax p n (ix2 a l) ≤ b ↔ ∀ j : ℕ, j ≤ n → p j (ix3 0 a l) ≤ b := by
  induction n with
  | zero =>
    rw [colMax]
    pointwise
    exact ⟨fun h j hj => by obtain rfl : j = 0 := by omega
                            exact h, fun h => h 0 (Nat.le_refl 0)⟩
  | succ n ih =>
    rw [colMax]
    pointwise
    rw [max_le_iff, ih]
    constructor
    · rintro ⟨h1, h2⟩ j hj
      by_cases hjn : j ≤ n
      · exact h1 j hjn
      · obtain rfl : j = n + 1 := by omega
        exact h2
    · exact fun h => ⟨fun j hj => h j (by omega), h (n + 1) (Nat.le_refl _)⟩

theorem scaleOf_apply (a : FVec Ideal S8x128 .f32) (r : Fin 8) (l : Fin 128) :
    scaleOf a (ix2 r l) = scl (a (ix2 r l)) := by
  unfold scaleOf
  pointwise
  rfl

theorem quant_apply (y : Vec Ideal S128x256 .f32) (r : Vec Ideal S1x256 .f32) (ρ : Fin 128) (n : Fin 256) :
    quant y r (ix2 ρ n) = codeOf (y (ix2 ρ n) * r (ix2 0 n)) := by
  unfold quant
  pointwise
  rfl

/-- Narrowing a word to its lowest four bits does not change them. -/
theorem nibble_mask (v : BitVec 32) :
    IntOp.andi (BitVec.signExtend 32 (BitVec.setWidth 4 (BitVec.setWidth 8 v))) 15#32 = v &&& 15#32 := by
  refine BitVec.eq_of_getLsbD_eq fun i hi => ?_
  show (BitVec.signExtend 32 (BitVec.setWidth 4 (BitVec.setWidth 8 v)) &&& 15#32).getLsbD i = _
  rw [BitVec.getLsbD_and, BitVec.getLsbD_and]
  by_cases h : i < 4
  · congr 1
    rw [BitVec.getLsbD_signExtend]
    simp [h, hi, show i < 8 by omega]
  · have e : (15#32).getLsbD i = false := by
      interval_cases i <;> first | omega | rfl
    rw [e, Bool.and_false, Bool.and_false]

theorem packed_apply (q : IVec S128x256 32) (p : Fin 64) (n : Fin 256) :
    packed q (ix2 p n) = byteOf (q (ix2 ⟨2 * p.val, by omega⟩ n)) (q (ix2 ⟨2 * p.val + 1, by omega⟩ n)) := by
  unfold packed
  pointwise
  have e : p.val * 2 = 2 * p.val := by omega
  simp only [e]
  rw [nibble_mask, nibble_mask]
  rfl

theorem tile_apply (p0 p1 : IVec S64x256 8) (n : Fin 256) (p : Fin 128) :
    tile p0 p1 (ix3 0 n p) = if h : p.val < 64 then p0 (ix2 ⟨p.val, h⟩ n) else p1 (ix2 ⟨p.val - 64, by omega⟩ n) := by
  unfold tile
  pointwise

/-- The largest absolute value in column `l` of a group. -/
def gmax (y : FVec Ideal S128x256 .f32) (l : Fin 256) : EReal := Finset.univ.sup fun ρ : Fin 128 => eabs (y (ix2 ρ l))

theorem gmax_le (y : FVec Ideal S128x256 .f32) (l : Fin 256) (b : EReal) :
    gmax y l ≤ b ↔ ∀ ρ : Fin 128, eabs (y (ix2 ρ l)) ≤ b := by
  unfold gmax
  rw [Finset.sup_le_iff]
  exact ⟨fun h ρ => h ρ (Finset.mem_univ _), fun h ρ _ => h ρ⟩

variable (I : Inputs Ideal)

/-- The scale of a group is that of its largest absolute value. -/
theorem scaleAt_eq (g : Fin 56) (l : Fin 256) : scaleAt I g l = scl (gmax (y I g.val) l) := by
  unfold scaleAt scale
  rw [scaleOf_apply]
  congr 1
  have hg := g.isLt
  have hl := l.isLt
  have e1 : (2 * (g.val / 8) + l.val / 128) / 2 = g.val / 8 := by omega
  have e2 : (2 * (g.val / 8) + l.val / 128) % 2 = l.val / 128 := by omega
  rw [e1, e2]
  refine eq_of_forall_ge_iff fun b => ?_
  refine (colMax_le _ _ _ b 7).trans ?_
  rw [gmax_le]
  have step : ∀ j : ℕ, ∀ hj : j < 8,
      I.v11.readCov (pmPieces I (16 * (g.val / 8 + 1))) (pmLoad (g.val / 8) (l.val / 128) j)
        (ix3 0 ⟨g.val % 8, Nat.mod_lt _ (by omega)⟩ ⟨l.val % 128, Nat.mod_lt _ (by omega)⟩)
        = rowMax (y I g.val) 15 (ix2 ⟨j, hj⟩ l) := by
    intro j hj
    rw [pmLoad_apply I (g.val / 8) (l.val / 128) j (by omega) (by omega) hj, pmPart_apply]
    have e3 : 8 * (g.val / 8) + g.val % 8 = g.val := by omega
    have e4 : (⟨128 * (l.val / 128 % 2) + l.val % 128, by omega⟩ : Fin 256) = l := Fin.ext (by simp only; omega)
    simp only [e3, e4]
  constructor
  · intro h ρ
    have h1 := h (ρ.val % 8) (by omega)
    rw [step _ (by omega), rowMax_le _ _ _ _ 15 (by omega)] at h1
    have h2 := h1 ⟨ρ.val / 8, by omega⟩ (by simp only; omega)
    have e5 : (⟨8 * (ρ.val / 8) + ρ.val % 8, by omega⟩ : Fin 128) = ρ := Fin.ext (by simp only; omega)
    simp only [e5] at h2
    exact h2
  · intro h j hj
    rw [step _ (by omega), rowMax_le _ _ _ _ 15 (by omega)]
    exact fun i _ => h _

/-- One code of a visit. -/
def codeAt (g : ℕ) (ρ : Fin 128) (n : Fin 256) : BitVec 32 :=
  codeOf (y I g (ix2 ρ n) * Ideal.div 1 (scl (gmax (y I g) n)))

theorem quant_eq (g : Fin 56) (ρ : Fin 128) (n : Fin 256) :
    quant (yload I g.val) (rload I g.val) (ix2 ρ n) = codeAt I g.val ρ n := by
  rw [quant_apply, yload_eq I g.val g.isLt, shapeCast_self, rload_apply, scaleAt_eq]
  unfold codeAt
  exact congrArg (fun u => codeOf (y I g.val (ix2 ρ n) * Ideal.div u (scl (gmax (y I g.val) n)))) Ideal.ofBits_one_f32

/-- One byte of packed codes of a visit. -/
theorem codes_at (P : Fin 3584) (n : Fin 256) :
    View.canon (oPieces I 28) (ix3 0 n P)
      = byteOf (codeAt I (P.val / 64) ⟨2 * (P.val % 64), by omega⟩ n)
          (codeAt I (P.val / 64) ⟨2 * (P.val % 64) + 1, by omega⟩ n) := by
  have hP := P.isLt
  have e : P = ⟨128 * (P.val / 128) + P.val % 128, by omega⟩ := Fin.ext (by simp only; omega)
  have h1 := oCanon I ⟨P.val / 128, by omega⟩ n ⟨P.val % 128, by omega⟩
  simp only [← e] at h1
  rw [h1]
  unfold out
  rw [tile_apply]
  refine of_dite (fun h => ?_) (fun h => ?_)
  · rw [packed_apply, quant_eq I ⟨2 * (P.val / 128), by omega⟩, quant_eq I ⟨2 * (P.val / 128), by omega⟩]
    have e1 : 2 * (P.val / 128) = P.val / 64 := by simp only at h; omega
    have e2 : P.val % 128 = P.val % 64 := by simp only at h; omega
    simp only [e1, e2]
  · rw [packed_apply, quant_eq I ⟨2 * (P.val / 128) + 1, by omega⟩, quant_eq I ⟨2 * (P.val / 128) + 1, by omega⟩]
    have e1 : 2 * (P.val / 128) + 1 = P.val / 64 := by simp only at h; omega
    have e2 : P.val % 128 - 64 = P.val % 64 := by simp only at h; omega
    simp only [e1, e2]

/-- One scale of a visit. -/
theorem scales_at (g : Fin 56) (n : Fin 256) : View.canon (cPieces I) (ix3 0 g n) = scl (gmax (y I g.val) n) := by
  rw [cCanon, scaleAt_eq]
  rfl

end Cert.KernelIdeal.Model

end
-- ==== Proof.Left.lean ====
/-
The left operands: what the loop that builds them leaves.
-/
module

public import proofs.«01_k».proof.Proof.RunsAsModel
public import proofs.«01_k».proof.Proof.Quantise

@[expose] public section

set_option maxRecDepth 16384

noncomputable section

namespace Cert.KernelIdeal.Model

open Idealize.ShloMosaic Idealize.SL.Sem Cert.KernelIdeal.Gen

variable {F : FTy → Type} [FloatOps F]

/-- Columns `q * 128 …` of the left operand of group `k`. -/
def eRect (q : Fin 2) (k : ℕ) : Rect S3584x2x256 :=
  Rect.unit ![64 * (k % 56), 0, 128 * q.val] S64x2x128.size
    (by intro a; fin_cases a
        exacts [show 64 * (k % 56) + 64 ≤ 3584 by omega, Nat.le_refl 2, show 128 * q.val + 128 ≤ 256 by omega])

/-- The columns of group `k` in the first factor. -/
def aRect (k : ℕ) : Rect S1x40x7168 :=
  Rect.unit ![0, 0, 128 * (k % 56)] S1x40x128.size
    (by intro a; fin_cases a
        exacts [Nat.le_refl 1, Nat.le_refl 40, show 128 * (k % 56) + 128 ≤ 7168 by omega])

/-- The stores of the first `n` trips, over the reads `xa` of the first factor. -/
def lPieces (xa : ℕ → Vec F S1x40x128 .bf16) : ℕ → List (View.Piece (Elt F) S3584x2x256 .bf16)
  | 0 => []
  | n + 1 => ⟨eRect 1 n, k0_pay4 (xa n)⟩ :: ⟨eRect 0 n, k0_pay3⟩ :: lPieces xa n

variable (c : Dev nD) (i : grid0.Coords)
  (arg2 : Memref sig .tc .vmem S1x256x3584 .i8) (harg2 : arg2.IsWhole)
  (arg3 : Memref sig .tc .vmem S1x224x256 .bf16) (harg3 : arg3.IsWhole)
  (arg4 : Memref sig .tc .vmem S1x40x7168 .bf16) (harg4 : arg4.IsWhole)
  (arg5 : Memref sig .tc .vmem S1x40x256 .bf16) (harg5 : arg5.IsWhole)
  (arg6 : Memref sig .tc .vmem S1x256x3584 .i8) (harg6 : arg6.IsWhole)
  (arg7 : Memref sig .tc .vmem S1x56x256 .bf16) (harg7 : arg7.IsWhole)
  (arg8 : Memref sig .tc .vmem S3584x2x256 .bf16) (harg8 : arg8.IsWhole)
  (arg9 : Memref sig .tc .vmem S224x2x256 .bf16) (harg9 : arg9.IsWhole)
  (arg10 : Memref sig .tc .vmem S2048x256 .f32) (harg10 : arg10.IsWhole)
  (arg11 : Memref sig .tc .vmem S2x128x128 .f32) (harg11 : arg11.IsWhole)
  (arg12 : Memref sig .tc .vmem S56x256 .f32) (harg12 : arg12.IsWhole)
  (arg13 : Memref sig .tc .vmem S56x256 .f32) (harg13 : arg13.IsWhole)
  (x2 : Vec F S1x40x7168 .bf16)

theorem built_eq (hc0 : cond0_0 i) :
    built c i arg2 harg2 arg3 harg3 arg4 harg4 arg5 harg5 arg6 harg6 arg7 harg7 arg8 harg8 arg9 harg9 arg10 harg10
        arg11 harg11 arg12 harg12 arg13 harg13 x2 hc0
      = lPieces (fun k => View.readAt (Elt F) arg4.view (aRect k).toLoadRect (harg4.unread x2)) 56 := by
  sl_kernel_rfl

theorem left_mem {q : Fin 2} {n : ℕ} {g : ℕ} (hg : g < 56) {ρ : Fin 128} {k : Fin 256}
    (h : (ix3 ⟨64 * g + ρ.val / 2, by omega⟩ ⟨ρ.val % 2, Nat.mod_lt _ (by omega)⟩ k : S3584x2x256.Idx) ∈ (eRect q n).set) :
    n % 56 = g ∧ k.val / 128 = q.val := by
  have h0 := (Rect.mem_set_unit.mp h) 0
  have h1 := (Rect.mem_set_unit.mp h) 2
  have h2 : 64 * (n % 56) ≤ 64 * g + ρ.val / 2 := h0.1
  have h3 : 64 * g + ρ.val / 2 < 64 * (n % 56) + 64 := h0.2
  have h4 : 128 * q.val ≤ k.val := h1.1
  have h5 : k.val < 128 * q.val + 128 := h1.2
  omega

theorem left_idx (q : Fin 2) (g : ℕ) (hg : g < 56) (ρ : Fin 128) (k : Fin 256) (hk : k.val / 128 = q.val) :
    (ix3 ⟨64 * g + ρ.val / 2, by omega⟩ ⟨ρ.val % 2, Nat.mod_lt _ (by omega)⟩ k : S3584x2x256.Idx) = (eRect q g).emb (ix3 ⟨ρ.val / 2, by omega⟩ ⟨ρ.val % 2, Nat.mod_lt _ (by omega)⟩ ⟨k.val % 128, Nat.mod_lt _ (by omega)⟩) := by
  funext b; apply Fin.ext
  fin_cases b
  · show 64 * g + ρ.val / 2 = 64 * (g % 56) + 1 * (ρ.val / 2); omega
  · show ρ.val % 2 = 0 + 1 * (ρ.val % 2); omega
  · show k.val = 128 * q.val + 1 * (k.val % 128); omega

/-- The left operands as the loop leaves them. -/
theorem left_apply (xa : ℕ → Vec F S1x40x128 .bf16) (g : ℕ) (hg : g < 56) (ρ : Fin 128) (k : Fin 256) (n : ℕ) (hn : n ≤ 56)
    (h : g < n) :
    View.canon (lPieces xa n) (ix3 ⟨64 * g + ρ.val / 2, by omega⟩ ⟨ρ.val % 2, Nat.mod_lt _ (by omega)⟩ k)
      = if k.val < 128 then k0_pay3 (ix3 ⟨ρ.val / 2, by omega⟩ ⟨ρ.val % 2, Nat.mod_lt _ (by omega)⟩ ⟨k.val % 128, Nat.mod_lt _ (by omega)⟩)
        else k0_pay4 (xa g) (ix3 ⟨ρ.val / 2, by omega⟩ ⟨ρ.val % 2, Nat.mod_lt _ (by omega)⟩ ⟨k.val % 128, Nat.mod_lt _ (by omega)⟩) := by
  induction n with
  | zero => omega
  | succ n ih =>
    by_cases e : n = g
    · subst e
      by_cases hk : k.val < 128
      · rw [if_pos hk]
        refine (View.canon_cons_of_not_mem _ _ fun hm => ?_).trans ?_
        · have h1 : k.val / 128 = 1 := (left_mem hg hm).2
          omega
        · rw [left_idx 0 n hg ρ k (by show _ = 0; omega)]
          exact View.canon_cons_emb _ _ _ _
      · rw [if_neg hk, left_idx 1 n hg ρ k (by show _ = 1; omega)]
        exact View.canon_cons_emb _ _ _ _
    · refine (View.canon_cons_of_not_mem _ _ fun hm => ?_).trans
        ((View.canon_cons_of_not_mem _ _ fun hm => ?_).trans (ih (by omega) (by omega)))
      · have h1 := (left_mem hg hm).1
        omega
      · have h1 := (left_mem hg hm).1
        omega

/-- The identity. -/
theorem eye_apply (ρ k : Fin 128) : k0_pay3 (F := Ideal) (ix3 ⟨ρ.val / 2, by omega⟩ ⟨ρ.val % 2, Nat.mod_lt _ (by omega)⟩ k) = if ρ.val = k.val then 1 else 0 := by
  unfold k0_pay3
  pointwise
  rw [WordCmp.cmpi_eq_ofNat (by omega) (by omega), WordCmp.cmpi_eq_ofNat (by omega) (by omega)]
  have key : ∀ r : ℕ, r = ρ.val →
      Scalar.select (BitVec.ofBool (decide (r = k.val))) (1 : EReal) 0 = if ρ.val = k.val then 1 else 0 := by
    rintro r rfl
    by_cases h : ρ.val = k.val
    · rw [if_pos h, decide_eq_true h]; rfl
    · rw [if_neg h, decide_eq_false h]; rfl
  rcases Nat.mod_two_eq_zero_or_one ρ.val with h | h
  · exact (if_pos (by omega)).trans (key _ (by omega))
  · exact (if_neg (by omega)).trans (key _ (by omega))

theorem lentry_high (a : Fin 40 → EReal) (c : EReal) (ρ k : ℕ) : lentry a c ρ (128 + k) =
    if h : k < 40 then a ⟨k, h⟩ * c
    else if h : k - 40 < 40 then a ⟨k - 40, h⟩ * c - a ⟨k - 40, h⟩ * c
    else if h : k - 40 - 40 < 40 then
      (a ⟨k - 40 - 40, h⟩ * c - a ⟨k - 40 - 40, h⟩ * c) - (a ⟨k - 40 - 40, h⟩ * c - a ⟨k - 40 - 40, h⟩ * c)
    else 0 := by
  have e1 : 128 + k - 128 = k := by omega
  have e2 : 128 + k - 168 = k - 40 := by omega
  have e3 : 128 + k - 208 = k - 40 - 40 := by omega
  unfold lentry
  rw [if_neg (by omega)]
  simp only [e1, e2, e3]

/-- The first factor in three parts. -/
theorem parts_apply (x : Vec Ideal S1x40x128 .bf16) (ρ k : Fin 128) :
    k0_pay4 x (ix3 ⟨ρ.val / 2, by omega⟩ ⟨ρ.val % 2, Nat.mod_lt _ (by omega)⟩ k) = lentry (fun r => x (ix3 0 r ρ)) (Ideal.ofBits .f32 0x3ECCCCCD#32) ρ.val (128 + k.val) := by
  unfold k0_pay4
  pointwise
  rw [lentry_high]
  rcases Nat.mod_two_eq_zero_or_one ρ.val with h | h
  · have e : ∀ hb, (⟨2 * (ρ.val / 2), hb⟩ : Fin 128) = ρ := fun _ => Fin.ext (by simp only; omega)
    rw [if_pos (by omega)]
    simp only [e]
  · have e : ∀ hb, (⟨2 * (ρ.val / 2) + 1, hb⟩ : Fin 128) = ρ := fun _ => Fin.ext (by simp only; omega)
    rw [if_neg (by omega)]
    simp only [e]

/-- The entries of the left operands built over the reads `xa`. -/
theorem left_entry (xa : ℕ → Vec Ideal S1x40x128 .bf16) (g : ℕ) (hg : g < 56) (ρ : Fin 128) (k : Fin 256) :
    View.canon (lPieces xa 56) (ix3 ⟨64 * g + ρ.val / 2, by omega⟩ ⟨ρ.val % 2, Nat.mod_lt _ (by omega)⟩ k)
      = lentry (fun r => xa g (ix3 0 r ρ)) (Ideal.ofBits .f32 0x3ECCCCCD#32) ρ.val k.val := by
  rw [left_apply xa g hg ρ k 56 (Nat.le_refl _) hg]
  have hk := k.isLt
  by_cases h : k.val < 128
  · have e : k.val % 128 = k.val := by omega
    rw [if_pos h, eye_apply, lentry, if_pos h]
    simp only [e]
  · have e : 128 + k.val % 128 = k.val := by omega
    rw [if_neg h, parts_apply]
    simp only [e]

end Cert.KernelIdeal.Model

end
-- ==== Proof.Visit.lean ====
/-
What one visit computes over the extended reals, in terms of the blocks it is given.
-/
module

public import proofs.«01_k».proof.Proof.Left

@[expose] public section

set_option maxRecDepth 16384

noncomputable section

namespace Cert.KernelIdeal.Model

open Idealize.ShloMosaic Idealize.SL.Sem Cert.KernelIdeal.Gen

/-- The factor of the low-rank update. -/
def alpha : EReal := Ideal.ofBits .f32 0x3ECCCCCD#32

theorem alpha_nonneg : 0 ≤ alpha := by
  have h : alpha = (((13421773 : ℝ) / 33554432 : ℝ) : EReal) := by
    unfold alpha
    simp [Ideal.ofBits, Ideal.ieee, -EReal.coe_mul]; norm_num
  rw [h]
  exact EReal.coe_nonneg.mpr (by norm_num)

theorem alpha_ne_top : alpha ≠ ⊤ := by
  have h : alpha = (((13421773 : ℝ) / 33554432 : ℝ) : EReal) := by
    unfold alpha
    simp [Ideal.ofBits, Ideal.ieee, -EReal.coe_mul]; norm_num
  rw [h]
  exact EReal.coe_ne_top _

theorem seven : Ideal.ofBits .f32 0x40E00000#32 = ((7 : ℝ) : EReal) := by
  simp [Ideal.ofBits, Ideal.ieee, -EReal.coe_mul]; norm_num

theorem scl_ne_zero (a : EReal) (h : 0 ≤ a) : scl a ≠ 0 := by
  unfold scl
  by_cases h0 : a = 0
  · rw [if_pos h0]; exact one_ne_zero
  · rw [if_neg h0, seven]
    unfold Ideal.div
    rw [if_neg (by norm_num), ← EReal.coe_inv]
    exact mul_ne_zero h0 (by norm_num)

theorem scl_top : scl ⊤ = ⊤ := by
  unfold scl
  rw [if_neg (by simp), seven]
  unfold Ideal.div
  rw [if_neg (by norm_num), ← EReal.coe_inv]
  exact EReal.top_mul_coe_of_pos (by norm_num)

theorem div_top (x : EReal) : Ideal.div x ⊤ = 0 := by
  unfold Ideal.div
  rw [if_neg (by simp), EReal.inv_top, mul_zero]

/-- The largest absolute value of a group. -/
def amax (v : Fin 128 → EReal) : EReal := Finset.univ.sup fun ρ => eabs (v ρ)

theorem eabs_nonneg (x : EReal) : 0 ≤ eabs x := by
  unfold eabs
  rcases le_total 0 x with h | h
  · exact le_trans h (le_max_left _ _)
  · exact le_trans (EReal.neg_nonneg.mpr h) (le_max_right _ _)

theorem le_amax (v : Fin 128 → EReal) (ρ : Fin 128) : eabs (v ρ) ≤ amax v :=
  Finset.le_sup (f := fun ρ => eabs (v ρ)) (Finset.mem_univ ρ)

theorem amax_nonneg (v : Fin 128 → EReal) : 0 ≤ amax v := le_trans (eabs_nonneg _) (le_amax v 0)

theorem amax_rel {u v : Fin 128 → EReal} (h : ∀ ρ, Extended.Rel (u ρ) (v ρ)) : amax u = amax v := by
  unfold amax
  exact congrArg (Finset.univ.sup ·) (funext fun ρ => (h ρ).abs)

/-- Values that differ in the sign of an infinite entry only have the same codes. -/
theorem code_rel {u v : Fin 128 → EReal} (h : ∀ ρ, Extended.Rel (u ρ) (v ρ)) (ρ : Fin 128) :
    codeOf (u ρ * Ideal.div 1 (scl (amax u))) = codeOf (Ideal.div (v ρ) (scl (amax v))) := by
  rw [Ideal.mul_one_div (scl_ne_zero _ (amax_nonneg u)), amax_rel h]
  rcases h ρ with e | ⟨-, hv⟩
  · rw [e]
  · have e : amax v = ⊤ := by
      have h1 := le_amax v ρ
      have h2 : eabs (v ρ) = ⊤ := hv.abs
      rw [h2] at h1
      exact top_le_iff.mp h1
    rw [e, scl_top, div_top, div_top]

/-- One merged weight: the code times its scale, plus the low-rank update. -/
def merged (x0 : Vec Ideal S1x256x3584 .i8) (x1 : Vec Ideal S1x224x256 .bf16) (x3 : Vec Ideal S1x40x256 .bf16)
    (A : Vec Ideal S1x40x7168 .bf16) (g : Fin 56) (n : Fin 256) (ρ : Fin 128) : EReal :=
  (((nibble (x0 (ix3 0 n ⟨64 * g.val + ρ.val / 2, by omega⟩)) ρ.val).toInt : ℝ) : EReal)
      * x1 (ix3 0 ⟨4 * g.val + ρ.val / 32, by omega⟩ n)
    + alpha * ∑ r : Fin 40, x3 (ix3 0 r n) * A (ix3 0 r ⟨128 * g.val + ρ.val, by omega⟩)

/-- The visit `I` reads the blocks `x0`, `x1`, `x3` and has the left operands of `A`. -/
structure Reads (I : Inputs Ideal) (x0 : Vec Ideal S1x256x3584 .i8) (x1 : Vec Ideal S1x224x256 .bf16)
    (x3 : Vec Ideal S1x40x256 .bf16) (A : Vec Ideal S1x40x7168 .bf16) : Prop where
  xq : ∀ (t : ℕ) (ht : t < 28) (n : Fin 256) (p : Fin 128), I.xq t (ix3 0 n p) = x0 (ix3 0 n ⟨128 * t + p.val, by omega⟩)
  xw : I.xw = x1
  xb : I.xb = x3
  lrow : ∀ (g : ℕ) (hg : g < 56) (ρ : Fin 128) (k : Fin 256),
    I.lrow g (ix2 ρ k) = lentry (fun r => A (ix3 0 r ⟨128 * g + ρ.val, by omega⟩)) alpha ρ.val k.val

section

variable {I : Inputs Ideal} {x0 : Vec Ideal S1x256x3584 .i8} {x1 : Vec Ideal S1x224x256 .bf16}
  {x3 : Vec Ideal S1x40x256 .bf16} {A : Vec Ideal S1x40x7168 .bf16} (h : Reads I x0 x1 x3 A)

/-- Both halves of a word of scales hold the scale. -/
theorem pay5_apply (x : Vec Ideal S1x224x256 .bf16) (r : Fin 224) (q : Fin 2) (n : Fin 256) :
    k0_pay5 x (ix3 r q n) = x (ix3 0 r n) := by
  unfold k0_pay5
  pointwise
  exact ite_self _

include h

/-- An entry of a group's product is the merged weight, up to the sign of an infinite one. -/
theorem y_rel (g : Fin 56) (n : Fin 256) (ρ : Fin 128) :
    Extended.Rel (y I g.val (ix2 ρ n)) (merged x0 x1 x3 A g n ρ) := by
  have hg := g.isLt
  have hρ := ρ.isLt
  unfold y
  rw [product_apply]
  simp only [h.lrow g.val hg]
  have low : rhs g.val (unpacked (I.xq (g.val / 2))) (wrow I) (k0_pay6 I.xb) n ρ.val
      = (((nibble (x0 (ix3 0 n ⟨64 * g.val + ρ.val / 2, by omega⟩)) ρ.val).toInt : ℝ) : EReal)
        * x1 (ix3 0 ⟨4 * g.val + ρ.val / 32, by omega⟩ n) := by
    refine (if_pos hρ).trans ?_
    rw [codes_apply, h.xq _ (by omega), wrow_apply I _ (by omega), h.xw, pay5_apply]
    have e1 : 128 * (g.val / 2) + (128 * (g.val % 2) + ρ.val) % 256 / 2 = 64 * g.val + ρ.val / 2 := by omega
    have e2 : ((128 * (g.val % 2) + ρ.val) % 256) % 2 = ρ.val % 2 := by omega
    have e3 : ∀ b : BitVec 8, nibble b ((128 * (g.val % 2) + ρ.val) % 256) = nibble b ρ.val := fun b => by
      unfold nibble
      rw [e2]
    simp only [e1, e3]
  have high : ∀ r : Fin 40, ∀ p : ℕ, p < 3 →
      rhs g.val (unpacked (I.xq (g.val / 2))) (wrow I) (k0_pay6 I.xb) n (128 + 40 * p + r.val) = x3 (ix3 0 r n) := by
    intro r p hp
    have hr := r.isLt
    refine (if_neg (by omega)).trans ?_
    rw [factors_apply, h.xb, dif_pos (by simp only; omega)]
    have e0 : (128 + 40 * p + r.val - 128) % 128 % 40 = r.val := by
      have : 128 + 40 * p + r.val - 128 = 40 * p + r.val := by omega
      rw [this, Nat.mod_eq_of_lt (by omega : 40 * p + r.val < 128), Nat.mul_add_mod, Nat.mod_eq_of_lt hr]
    have e : (⟨(128 + 40 * p + r.val - 128) % 128 % 40, Nat.mod_lt _ (by omega)⟩ : Fin 40) = r := Fin.ext e0
    simp only [e]
  have main := entry_rel (fun r => A (ix3 0 r ⟨128 * g.val + ρ.val, by omega⟩)) (fun r => x3 (ix3 0 r n)) alpha alpha_nonneg
    alpha_ne_top ρ _ high
  rw [low] at main
  exact main

/-- The packed codes a visit writes. -/
theorem visit_codes (P : Fin 3584) (n : Fin 256) :
    View.canon (oPieces I 28) (ix3 0 n P)
      = byteOf
          (codeOf (Ideal.div (merged x0 x1 x3 A ⟨P.val / 64, by omega⟩ n ⟨2 * (P.val % 64), by omega⟩)
            (scl (amax (merged x0 x1 x3 A ⟨P.val / 64, by omega⟩ n)))))
          (codeOf (Ideal.div (merged x0 x1 x3 A ⟨P.val / 64, by omega⟩ n ⟨2 * (P.val % 64) + 1, by omega⟩)
            (scl (amax (merged x0 x1 x3 A ⟨P.val / 64, by omega⟩ n))))) := by
  rw [codes_at]
  have hr := y_rel h ⟨P.val / 64, by omega⟩ n
  exact congrArg₂ byteOf (code_rel hr _) (code_rel hr _)

/-- The scales a visit writes. -/
theorem visit_scales (g : Fin 56) (n : Fin 256) :
    View.canon (cPieces I) (ix3 0 g n) = scl (amax (merged x0 x1 x3 A g n)) := by
  rw [scales_at]
  exact congrArg scl (amax_rel (y_rel h g n))

end

end Cert.KernelIdeal.Model

end
-- ==== Proof.Points.lean ====
/-
What the visit at each grid point reads, and what it leaves.
-/
module

public import proofs.«01_k».proof.Proof.Visit
public import Idealize.ShloMosaic.Lib.Pipeline.Value
public import Idealize.ShloMosaic.Lib.Tactic

@[expose] public section

set_option maxRecDepth 16384

noncomputable section

namespace Cert.KernelIdeal.Model

open Idealize.ShloMosaic Idealize.ShloMosaic.TcCoe Idealize.SL.Sem Cert.KernelIdeal.Gen

section Blocks

variable {F : FTy → Type} [FloatOps F] (m : (ℓ : Loc nD τ sig) → Buf (Elt F) ℓ) (c : Dev nD)

theorem index_at : ∀ t : Fin grid0.N,
    (win0_0.index t 0 = t.val / 38 ∧ win0_0.index t 1 = t.val % 38 ∧ win0_0.index t 2 = 0)
    ∧ (win0_1.index t 0 = t.val / 38 ∧ win0_1.index t 1 = 0 ∧ win0_1.index t 2 = t.val % 38)
    ∧ (win0_2.index t 0 = t.val / 38 ∧ win0_2.index t 1 = 0 ∧ win0_2.index t 2 = 0)
    ∧ (win0_3.index t 0 = t.val / 38 ∧ win0_3.index t 1 = 0 ∧ win0_3.index t 2 = t.val % 38)
    ∧ (win0_4.index t 0 = t.val / 38 ∧ win0_4.index t 1 = t.val % 38 ∧ win0_4.index t 2 = 0)
    ∧ (win0_5.index t 0 = t.val / 38 ∧ win0_5.index t 1 = 0 ∧ win0_5.index t 2 = t.val % 38) := by
  decide +kernel

theorem N_eq : cfg0.N = 114 := N_0

/-- The block of packed codes the visit at `t` reads. -/
theorem blk0 (t : Fin cfg0.N) (n : Fin 256) (p : Fin 3584) :
    iblk m c 0 t (ix3 0 n p) = V m c main_arg0 (ix3 ⟨t.val / 38, by have := t.isLt; have := N_eq; omega⟩
      ⟨256 * (t.val % 38) + n.val, by omega⟩ p) := by
  have h := (index_at t).1
  refine congrArg (V m c main_arg0) (funext fun a => Fin.ext ?_)
  fin_cases a
  · show win0_0.index t 0 * 1 + 1 * 0 = t.val / 38; rw [h.1]; omega
  · show win0_0.index t 1 * 256 + 1 * n.val = 256 * (t.val % 38) + n.val; rw [h.2.1]; omega
  · show win0_0.index t 2 * 3584 + 1 * p.val = p.val; rw [h.2.2]; omega

/-- The block of weight scales, transposed, the visit at `t` reads. -/
theorem blk1 (t : Fin cfg0.N) (j : Fin 224) (n : Fin 256) :
    iblk m c 1 t (ix3 0 j n) = V m c main_v0 (ix3 ⟨t.val / 38, by have := t.isLt; have := N_eq; omega⟩ j
      ⟨256 * (t.val % 38) + n.val, by omega⟩) := by
  have h := (index_at t).2.1
  refine congrArg (V m c main_v0) (funext fun a => Fin.ext ?_)
  fin_cases a
  · show win0_1.index t 0 * 1 + 1 * 0 = t.val / 38; rw [h.1]; omega
  · show win0_1.index t 1 * 224 + 1 * j.val = j.val; rw [h.2.1]; omega
  · show win0_1.index t 2 * 256 + 1 * n.val = 256 * (t.val % 38) + n.val; rw [h.2.2]; omega

/-- The first factor the visit at `t` reads. -/
theorem blk2 (t : Fin cfg0.N) (r : Fin 40) (k : Fin 7168) :
    iblk m c 2 t (ix3 0 r k) = V m c main_arg2 (ix3 ⟨t.val / 38, by have := t.isLt; have := N_eq; omega⟩ r k) := by
  have h := (index_at t).2.2.1
  refine congrArg (V m c main_arg2) (funext fun a => Fin.ext ?_)
  fin_cases a
  · show win0_2.index t 0 * 1 + 1 * 0 = t.val / 38; rw [h.1]; omega
  · show win0_2.index t 1 * 40 + 1 * r.val = r.val; rw [h.2.1]; omega
  · show win0_2.index t 2 * 7168 + 1 * k.val = k.val; rw [h.2.2]; omega

/-- The block of the second factor, transposed, the visit at `t` reads. -/
theorem blk3 (t : Fin cfg0.N) (r : Fin 40) (n : Fin 256) :
    iblk m c 3 t (ix3 0 r n) = V m c main_v1 (ix3 ⟨t.val / 38, by have := t.isLt; have := N_eq; omega⟩ r
      ⟨256 * (t.val % 38) + n.val, by omega⟩) := by
  have h := (index_at t).2.2.2.1
  refine congrArg (V m c main_v1) (funext fun a => Fin.ext ?_)
  fin_cases a
  · show win0_3.index t 0 * 1 + 1 * 0 = t.val / 38; rw [h.1]; omega
  · show win0_3.index t 1 * 40 + 1 * r.val = r.val; rw [h.2.1]; omega
  · show win0_3.index t 2 * 256 + 1 * n.val = 256 * (t.val % 38) + n.val; rw [h.2.2]; omega

/-- The weight scales as the region finds them. -/
theorem V_v0 : V m c main_v0
    = transpose S3x224x9728 [0, 2, 1] (m ((c : Thread nD τ).loc main_arg1)) transposes_S3x9728x224_S3x224x9728_0_2_1 := by
  rfl

/-- The second factor as the region finds it. -/
theorem V_v1 : V m c main_v1
    = transpose S3x40x9728 [0, 2, 1] (m ((c : Thread nD τ).loc main_arg3)) transposes_S3x9728x40_S3x40x9728_0_2_1 := by
  rfl

end Blocks

/-- The left operands built from the first factor `A`. -/
def IsLeft (xs : Vec Ideal S3584x2x256 .bf16) (A : Vec Ideal S1x40x7168 .bf16) : Prop :=
  ∀ (g : ℕ) (hg : g < 56) (ρ : Fin 128) (k : Fin 256),
    xs (ix3 ⟨64 * g + ρ.val / 2, by omega⟩ ⟨ρ.val % 2, Nat.mod_lt _ (by omega)⟩ k) = lentry (fun r => A (ix3 0 r ⟨128 * g + ρ.val, by omega⟩)) alpha ρ.val k.val

section Cases

variable (c : Dev nD) (i : grid0.Coords)
  (arg2 : Memref sig .tc .vmem S1x256x3584 .i8) (harg2 : arg2.IsWhole)
  (arg3 : Memref sig .tc .vmem S1x224x256 .bf16) (harg3 : arg3.IsWhole)
  (arg4 : Memref sig .tc .vmem S1x40x7168 .bf16) (harg4 : arg4.IsWhole)
  (arg5 : Memref sig .tc .vmem S1x40x256 .bf16) (harg5 : arg5.IsWhole)
  (arg6 : Memref sig .tc .vmem S1x256x3584 .i8) (harg6 : arg6.IsWhole)
  (arg7 : Memref sig .tc .vmem S1x56x256 .bf16) (harg7 : arg7.IsWhole)
  (arg8 : Memref sig .tc .vmem S3584x2x256 .bf16) (harg8 : arg8.IsWhole)
  (arg9 : Memref sig .tc .vmem S224x2x256 .bf16) (harg9 : arg9.IsWhole)
  (arg10 : Memref sig .tc .vmem S2048x256 .f32) (harg10 : arg10.IsWhole)
  (arg11 : Memref sig .tc .vmem S2x128x128 .f32) (harg11 : arg11.IsWhole)
  (arg12 : Memref sig .tc .vmem S56x256 .f32) (harg12 : arg12.IsWhole)
  (arg13 : Memref sig .tc .vmem S56x256 .f32) (harg13 : arg13.IsWhole)
  (x0 : Vec Ideal S1x256x3584 .i8) (x1 : Vec Ideal S1x224x256 .bf16) (x2 : Vec Ideal S1x40x7168 .bf16)
  (x3 : Vec Ideal S1x40x256 .bf16) (xs0 : Vec Ideal S3584x2x256 .bf16)

theorem inputs_reads (lrow : ℕ → Vec Ideal S128x256 .bf16) (A : Vec Ideal S1x40x7168 .bf16)
    (hl : ∀ (g : ℕ) (hg : g < 56) (ρ : Fin 128) (k : Fin 256),
      lrow g (ix2 ρ k) = lentry (fun r => A (ix3 0 r ⟨128 * g + ρ.val, by omega⟩)) alpha ρ.val k.val) :
    Reads (inputs arg2 harg2 arg3 harg3 arg5 harg5 arg9 arg10 arg11 arg12 arg13 x0 x1 x3 lrow) x0 x1 x3 A where
  xq t ht n p := by
    show View.ld (arg2.view.read (Elt Ideal) (harg2.unread x0)) _ _ = _
    rw [harg2.read_unread]
    refine congrArg x0 (funext fun a => Fin.ext ?_)
    fin_cases a
    · rfl
    · show 0 + 1 * n.val = n.val; omega
    · show 128 * (t % 28) + 1 * p.val = 128 * t + p.val; omega
  xw := by
    refine (congrArg (fun X => View.ld X (Rect.unit ![0, 0, 0] S1x224x256.size inb_S1x224x256_S1x224x256_0_0_0)) (harg3.read_unread x1)).trans ?_
    exact View.ld_unit_zero (S := S1x224x256) (funext fun a => by fin_cases a <;> rfl) _ _
  xb := by
    refine (congrArg (fun X => View.ld X (Rect.unit ![0, 0, 0] S1x40x256.size inb_S1x40x256_S1x40x256_0_0_0)) (harg5.read_unread x3)).trans ?_
    exact View.ld_unit_zero (S := S1x40x256) (funext fun a => by fin_cases a <;> rfl) _ _
  lrow := hl

theorem lRect_idx (g : ℕ) (hg : g < 56) (ρ : Fin 128) (k : Fin 256) :
    (lRect g).toLoadRect.idx (ix3 ⟨ρ.val / 2, by omega⟩ ⟨ρ.val % 2, Nat.mod_lt _ (by omega)⟩ k)
      = ix3 ⟨64 * g + ρ.val / 2, by omega⟩ ⟨ρ.val % 2, Nat.mod_lt _ (by omega)⟩ k := by
  funext a; apply Fin.ext
  fin_cases a
  · show 64 * (g % 56) + 1 * (ρ.val / 2) = 64 * g + ρ.val / 2; omega
  · show 0 + 1 * (ρ.val % 2) = ρ.val % 2; omega
  · show 0 + 1 * k.val = k.val; omega

theorem readsB (A : Vec Ideal S1x40x7168 .bf16) (h : IsLeft xs0 A) :
    Reads (inputsB arg2 harg2 arg3 harg3 arg5 harg5 arg8 harg8 arg9 arg10 arg11 arg12 arg13 x0 x1 x3 xs0) x0 x1 x3 A := by
  refine inputs_reads _ _ _ _ _ _ _ _ _ _ _ _ _ _ _ A fun g hg ρ k => ?_
  refine (left_words _ ρ k).trans ?_
  show View.ld (arg8.view.read (Elt Ideal) (harg8.unread xs0)) _ _ = _
  rw [harg8.read_unread]
  exact (congrArg xs0 (lRect_idx g hg ρ k)).trans (h g hg ρ k)

theorem built_left (hc0 : cond0_0 i) :
    IsLeft (View.canon (built c i arg2 harg2 arg3 harg3 arg4 harg4 arg5 harg5 arg6 harg6 arg7 harg7 arg8 harg8 arg9 harg9
      arg10 harg10 arg11 harg11 arg12 harg12 arg13 harg13 x2 hc0)) x2 := by
  intro g hg ρ k
  rw [built_eq]
  refine (left_entry _ g hg ρ k).trans ?_
  refine congrArg (fun f => lentry f alpha ρ.val k.val) (funext fun r => ?_)
  show View.ld (arg4.view.read (Elt Ideal) (harg4.unread x2)) _ _ = _
  rw [harg4.read_unread]
  refine congrArg x2 (funext fun a => Fin.ext ?_)
  fin_cases a
  · rfl
  · show 0 + 1 * r.val = r.val; omega
  · show 128 * (g % 56) + 1 * ρ.val = 128 * g + ρ.val; omega

theorem readsA (hc0 : cond0_0 i) :
    Reads (inputsA c i arg2 harg2 arg3 harg3 arg4 harg4 arg5 harg5 arg6 harg6 arg7 harg7 arg8 harg8 arg9 harg9
      arg10 harg10 arg11 harg11 arg12 harg12 arg13 harg13 x0 x1 x2 x3 hc0) x0 x1 x3 x2 := by
  refine inputs_reads _ _ _ _ _ _ _ _ _ _ _ _ _ _ _ x2 fun g hg ρ k => ?_
  refine (left_words _ ρ k).trans ?_
  rw [View.readCov_eq_canon']
  exact (congrArg _ (lRect_idx g hg ρ k)).trans (built_left c i arg2 harg2 arg3 harg3 arg4 harg4 arg5 harg5 arg6 harg6 arg7
    harg7 arg8 harg8 arg9 harg9 arg10 harg10 arg11 harg11 arg12 harg12 arg13 harg13 x2 hc0 g hg ρ k)

/-- What a visit leaves in the two output blocks, given the merged weights of its blocks. -/
def codesOf (M : Fin 56 → Fin 256 → Fin 128 → EReal) (P : Fin 3584) (n : Fin 256) : BitVec 8 :=
  byteOf (codeOf (Ideal.div (M ⟨P.val / 64, by omega⟩ n ⟨2 * (P.val % 64), by omega⟩) (scl (amax (M ⟨P.val / 64, by omega⟩ n)))))
    (codeOf (Ideal.div (M ⟨P.val / 64, by omega⟩ n ⟨2 * (P.val % 64) + 1, by omega⟩) (scl (amax (M ⟨P.val / 64, by omega⟩ n)))))

theorem outB_codes (hc0 : ¬cond0_0 i) (A : Vec Ideal S1x40x7168 .bf16) (h : IsLeft xs0 A) (P : Fin 3584) (n : Fin 256) :
    out0_B_4 c i arg2 harg2 arg3 harg3 arg4 harg4 arg5 harg5 arg6 harg6 arg7 harg7 arg8 harg8 arg9 harg9
      arg10 harg10 arg11 harg11 arg12 harg12 arg13 harg13 hc0 x0 x1 x2 x3 xs0 (ix3 0 n P) = codesOf (merged x0 x1 x3 A) P n := by
  unfold out0_B_4
  rw [View.read_writes_junk_eq_canon, runB_codes]
  exact visit_codes (readsB arg2 harg2 arg3 harg3 arg5 harg5 arg8 harg8 arg9 arg10 arg11 arg12 arg13 x0 x1 x3 xs0 A h) P n

theorem outB_scales (hc0 : ¬cond0_0 i) (A : Vec Ideal S1x40x7168 .bf16) (h : IsLeft xs0 A) (g : Fin 56) (n : Fin 256) :
    out0_B_5 c i arg2 harg2 arg3 harg3 arg4 harg4 arg5 harg5 arg6 harg6 arg7 harg7 arg8 harg8 arg9 harg9
      arg10 harg10 arg11 harg11 arg12 harg12 arg13 harg13 hc0 x0 x1 x2 x3 xs0 (ix3 0 g n) = scl (amax (merged x0 x1 x3 A g n)) := by
  unfold out0_B_5
  rw [View.read_writes_junk_eq_canon, runB_scales]
  exact visit_scales (readsB arg2 harg2 arg3 harg3 arg5 harg5 arg8 harg8 arg9 arg10 arg11 arg12 arg13 x0 x1 x3 xs0 A h) g n

theorem outA_codes (hc0 : cond0_0 i) (P : Fin 3584) (n : Fin 256) :
    out0_A_4 c i arg2 harg2 arg3 harg3 arg4 harg4 arg5 harg5 arg6 harg6 arg7 harg7 arg8 harg8 arg9 harg9
      arg10 harg10 arg11 harg11 arg12 harg12 arg13 harg13 hc0 x0 x1 x2 x3 (ix3 0 n P) = codesOf (merged x0 x1 x3 x2) P n := by
  unfold out0_A_4
  rw [View.read_writes_junk_eq_canon, runA_codes]
  exact visit_codes (readsA c i arg2 harg2 arg3 harg3 arg4 harg4 arg5 harg5 arg6 harg6 arg7 harg7 arg8 harg8 arg9 harg9
      arg10 harg10 arg11 harg11 arg12 harg12 arg13 harg13 x0 x1 x2 x3 hc0) P n

theorem outA_scales (hc0 : cond0_0 i) (g : Fin 56) (n : Fin 256) :
    out0_A_5 c i arg2 harg2 arg3 harg3 arg4 harg4 arg5 harg5 arg6 harg6 arg7 harg7 arg8 harg8 arg9 harg9
      arg10 harg10 arg11 harg11 arg12 harg12 arg13 harg13 hc0 x0 x1 x2 x3 (ix3 0 g n) = scl (amax (merged x0 x1 x3 x2 g n)) := by
  unfold out0_A_5
  rw [View.read_writes_junk_eq_canon, runA_scales]
  exact visit_scales (readsA c i arg2 harg2 arg3 harg3 arg4 harg4 arg5 harg5 arg6 harg6 arg7 harg7 arg8 harg8 arg9 harg9
      arg10 harg10 arg11 harg11 arg12 harg12 arg13 harg13 x0 x1 x2 x3 hc0) g n

theorem outA_left (hc0 : cond0_0 i) :
    IsLeft (sout0_A_0 c i arg2 harg2 arg3 harg3 arg4 harg4 arg5 harg5 arg6 harg6 arg7 harg7 arg8 harg8 arg9 harg9
      arg10 harg10 arg11 harg11 arg12 harg12 arg13 harg13 hc0 x0 x1 x2 x3) x2 := by
  unfold sout0_A_0
  rw [View.read_writes_junk_eq_canon, runA_built]
  exact built_left c i arg2 harg2 arg3 harg3 arg4 harg4 arg5 harg5 arg6 harg6 arg7
    harg7 arg8 harg8 arg9 harg9 arg10 harg10 arg11 harg11 arg12 harg12 arg13 harg13 x2 hc0

end Cases

section Grid

attribute [local irreducible] out0_A_4 out0_A_5 sout0_A_0 out0_B_4 out0_B_5 codesOf scl amax merged

variable (m : (ℓ : Loc nD τ sig) → Buf (Elt Ideal) ℓ) (c : Dev nD)

theorem blk2_same (t t' : Fin cfg0.N) (h : t.val / 38 = t'.val / 38) : iblk m c 2 t = iblk m c 2 t' := by
  have key : ∀ (r : Fin 40) (k : Fin 7168), iblk m c 2 t (ix3 0 r k) = iblk m c 2 t' (ix3 0 r k) := fun r k => by
    rw [blk2, blk2]
    simp only [h]
  funext j
  have e : j = (ix3 0 (j 1) (j 2) : S1x40x7168.Idx) := by
    funext a
    fin_cases a
    · exact Subsingleton.elim (α := Fin 1) _ _
    · rfl
    · rfl
  exact (congrArg (iblk m c 2 t) e).trans ((key (j 1) (j 2)).trans (congrArg (iblk m c 2 t') e).symm)

/-- Every visit leaves the left operands of its layer. -/
theorem left_at : ∀ (n : ℕ) (hn : n < cfg0.N), IsLeft (outsAt0 m c n hn).2.2 (iblk m c 2 ⟨n, hn⟩)
  | 0, hn => by
    rw [outsAt0_A m c ⟨0, hn⟩ rfl]
    exact outA_left _ _ _ _ _ _ _ _ _ _ _ _ _ _ _ _ _ _ _ _ _ _ _ _ _ _ _ _ _ _ _
  | n + 1, hn => by
    by_cases h0 : (n + 1) % 38 = 0
    · rw [outsAt0_A m c ⟨n + 1, hn⟩ h0]
      exact outA_left _ _ _ _ _ _ _ _ _ _ _ _ _ _ _ _ _ _ _ _ _ _ _ _ _ _ _ _ _ _ _
    · rw [outsAt0_B m c ⟨n + 1, hn⟩ h0, blk2_same m c ⟨n + 1, hn⟩ ⟨n, by omega⟩ (by simp only; omega)]
      exact left_at n (by omega)

/-- The merged weights of the blocks at `t`. -/
def mergedBlk (t : Fin cfg0.N) : Fin 56 → Fin 256 → Fin 128 → EReal :=
  merged (iblk m c 0 t) (iblk m c 1 t) (iblk m c 3 t) (iblk m c 2 t)

theorem left_before (t : Fin cfg0.N) (h0 : ¬t.val % 38 = 0) :
    IsLeft (outsAt0 m c (t.val - 1) (Nat.lt_of_le_of_lt (Nat.sub_le _ _) t.isLt)).2.2 (iblk m c 2 t) := by
  rw [blk2_same m c t ⟨t.val - 1, by omega⟩ (by simp only; omega)]
  exact left_at m c (t.val - 1) _

/-- The packed codes the visit at `t` leaves. -/
theorem codes_out (t : Fin cfg0.N) (P : Fin 3584) (n : Fin 256) :
    (outsAt0 m c t.val t.isLt).1 (ix3 0 n P) = codesOf (mergedBlk m c t) P n := by
  by_cases h0 : t.val % 38 = 0
  · refine (congrArg (fun o => o.1 (ix3 0 n P)) (outsAt0_A m c t h0)).trans ?_
    exact outA_codes c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _) scM0_2
      (Memref.isWhole_whole _) scM0_3 (Memref.isWhole_whole _) scM0_4 (Memref.isWhole_whole _) scM0_5 (Memref.isWhole_whole _)
      (iblk m c 0 t) (iblk m c 1 t) (iblk m c 2 t) (iblk m c 3 t)
      ((hcond0_0 t).mpr h0) P n
  · refine (congrArg (fun o => o.1 (ix3 0 n P)) (outsAt0_B m c t h0)).trans ?_
    exact outB_codes c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _) scM0_2
      (Memref.isWhole_whole _) scM0_3 (Memref.isWhole_whole _) scM0_4 (Memref.isWhole_whole _) scM0_5 (Memref.isWhole_whole _)
      (iblk m c 0 t) (iblk m c 1 t) (iblk m c 2 t) (iblk m c 3 t)
      (outsAt0 m c (t.val - 1) (Nat.lt_of_le_of_lt (Nat.sub_le _ _) t.isLt)).2.2 (fun h => h0 ((hcond0_0 t).mp h)) (iblk m c 2 t) (left_before m c t h0) P n

/-- The scales the visit at `t` leaves. -/
theorem scales_out (t : Fin cfg0.N) (g : Fin 56) (n : Fin 256) :
    (outsAt0 m c t.val t.isLt).2.1 (ix3 0 g n) = scl (amax (mergedBlk m c t g n)) := by
  by_cases h0 : t.val % 38 = 0
  · refine (congrArg (fun o => o.2.1 (ix3 0 g n)) (outsAt0_A m c t h0)).trans ?_
    exact outA_scales c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _) scM0_2
      (Memref.isWhole_whole _) scM0_3 (Memref.isWhole_whole _) scM0_4 (Memref.isWhole_whole _) scM0_5 (Memref.isWhole_whole _)
      (iblk m c 0 t) (iblk m c 1 t) (iblk m c 2 t) (iblk m c 3 t)
      ((hcond0_0 t).mpr h0) g n
  · refine (congrArg (fun o => o.2.1 (ix3 0 g n)) (outsAt0_B m c t h0)).trans ?_
    exact outB_scales c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _) scM0_2
      (Memref.isWhole_whole _) scM0_3 (Memref.isWhole_whole _) scM0_4 (Memref.isWhole_whole _) scM0_5 (Memref.isWhole_whole _)
      (iblk m c 0 t) (iblk m c 1 t) (iblk m c 2 t) (iblk m c 3 t)
      (outsAt0 m c (t.val - 1) (Nat.lt_of_le_of_lt (Nat.sub_le _ _) t.isLt)).2.2 (fun h => h0 ((hcond0_0 t).mp h)) (iblk m c 2 t) (left_before m c t h0) g n

end Grid

end Cert.KernelIdeal.Model

end
-- ==== Proof.Arrays.lean ====
/-
What the kernel's results hold after the run, entry by entry.
-/
module

public import proofs.«01_k».proof.Proof.Points
public import Idealize.ShloMosaic.Lib.StableHlo.Run
public import Idealize.ShloMosaic.Lib.Quiescent

@[expose] public section

set_option maxRecDepth 16384

noncomputable section

namespace Cert.KernelIdeal.Model

open Idealize.ShloMosaic Idealize.ShloMosaic.TcCoe Idealize.SL.Sem Cert.KernelIdeal.Gen
open Idealize.ShloMosaic.Pipeline (Dat)

/-- The merged weight of a layer's row `r` at element `ρ` of group `g`: even elements are the low
    halves of the group's 64 bytes, odd elements the high halves. -/
def weight (Q : Vec Ideal S3x9728x3584 .i8) (ws : Vec Ideal S3x9728x224 .bf16) (la : Vec Ideal S3x40x7168 .bf16)
    (lb : Vec Ideal S3x9728x40 .bf16) (L : Fin 3) (r : Fin 9728) (g : Fin 56) (ρ : Fin 128) : EReal :=
  (((nibble (Q (ix3 L r ⟨64 * g.val + ρ.val / 2, by omega⟩)) ρ.val).toInt : ℝ) : EReal)
      * ws (ix3 L r ⟨4 * g.val + ρ.val / 32, by omega⟩)
    + alpha * ∑ k : Fin 40, lb (ix3 L r k) * la (ix3 L k ⟨128 * g.val + ρ.val, by omega⟩)

/-- Byte `P` of the packed codes of a row whose groups are `v`. -/
def byteAt (v : Fin 56 → Fin 128 → EReal) (P : Fin 3584) : BitVec 8 :=
  byteOf (codeOf (Ideal.div (v ⟨P.val / 64, by omega⟩ ⟨2 * (P.val % 64), by omega⟩) (scl (amax (v ⟨P.val / 64, by omega⟩)))))
    (codeOf (Ideal.div (v ⟨P.val / 64, by omega⟩ ⟨2 * (P.val % 64) + 1, by omega⟩) (scl (amax (v ⟨P.val / 64, by omega⟩)))))

variable (m : (ℓ : Loc nD τ sig) → Buf (Elt Ideal) ℓ) (ρ : Dev nD → PrngReg) (c : Dev nD)

/-- The merged weights of the arguments. -/
def weights (L : Fin 3) (r : Fin 9728) : Fin 56 → Fin 128 → EReal :=
  weight (m ((c : Thread nD τ).loc main_arg0)) (m ((c : Thread nD τ).loc main_arg1)) (m ((c : Thread nD τ).loc main_arg2))
    (m ((c : Thread nD τ).loc main_arg3)) L r

theorem v0_apply (x : Vec Ideal S3x9728x224 .bf16) (L : Fin 3) (j : Fin 224) (r : Fin 9728) :
    transpose S3x224x9728 [0, 2, 1] x transposes_S3x9728x224_S3x224x9728_0_2_1 (ix3 L j r) = x (ix3 L r j) := by
  pointwise

theorem v1_apply (x : Vec Ideal S3x9728x40 .bf16) (L : Fin 3) (j : Fin 40) (r : Fin 9728) :
    transpose S3x40x9728 [0, 2, 1] x transposes_S3x9728x40_S3x40x9728_0_2_1 (ix3 L j r) = x (ix3 L r j) := by
  pointwise

theorem v3_apply (x : Vec Ideal S3x56x9728 .bf16) (L : Fin 3) (r : Fin 9728) (g : Fin 56) :
    transpose S3x9728x56 [0, 2, 1] x transposes_S3x56x9728_S3x9728x56_0_2_1 (ix3 L r g) = x (ix3 L g r) := by
  pointwise

theorem mergedBlk_eq (t : Fin cfg0.N) (g : Fin 56) (n : Fin 256) (ρ : Fin 128) :
    mergedBlk m c t g n ρ = weights m c ⟨t.val / 38, by have := t.isLt; have := N_eq; omega⟩
      ⟨256 * (t.val % 38) + n.val, by omega⟩ g ρ := by
  unfold mergedBlk merged weights weight
  have a0 : ∀ P, iblk m c 0 t (ix3 0 n P) = m ((c : Thread nD τ).loc main_arg0) (ix3 ⟨t.val / 38, by have := t.isLt; have := N_eq; omega⟩
      ⟨256 * (t.val % 38) + n.val, by omega⟩ P) := fun P => by
    rw [blk0, V_main_arg0]
  have a1 : ∀ j, iblk m c 1 t (ix3 0 j n) = m ((c : Thread nD τ).loc main_arg1) (ix3 ⟨t.val / 38, by have := t.isLt; have := N_eq; omega⟩
      ⟨256 * (t.val % 38) + n.val, by omega⟩ j) := fun j => by
    rw [blk1, V_v0]
    exact v0_apply _ _ _ _
  have a3 : ∀ j, iblk m c 3 t (ix3 0 j n) = m ((c : Thread nD τ).loc main_arg3) (ix3 ⟨t.val / 38, by have := t.isLt; have := N_eq; omega⟩
      ⟨256 * (t.val % 38) + n.val, by omega⟩ j) := fun j => by
    rw [blk3, V_v1]
    exact v1_apply _ _ _ _
  have a2 : ∀ r k, iblk m c 2 t (ix3 0 r k) = m ((c : Thread nD τ).loc main_arg2)
      (ix3 ⟨t.val / 38, by have := t.isLt; have := N_eq; omega⟩ r k) := fun r k => by
    rw [blk2, V_main_arg2]
  refine congrArg₂ (· + ·) (congrArg₂ (· * ·) ?_ (a1 _)) (congrArg (alpha * ·) (Finset.sum_congr rfl fun r _ =>
    congrArg₂ (· * ·) (a3 r) (a2 r _)))
  exact congrArg (fun b => (((nibble b ρ.val).toInt : ℝ) : EReal)) (a0 _)

/-- The packed codes the kernel leaves. -/
def codesResult : Buf (Elt Ideal) ((c : Thread nD τ).loc main_v2_0) :=
  fun j => byteAt (weights m c (j 0) (j 1)) (j 2)

/-- The scales the kernel's region leaves. -/
def scalesResult : Buf (Elt Ideal) ((c : Thread nD τ).loc main_v2_1) :=
  fun j => scl (amax (weights m c (j 0) (j 2) (j 1)))

theorem flushed4 (t : Fin cfg0.N) :
    (dats m 0 c).flushed 4 t = ((cfg0.win 4).blk t).view.read (Elt Ideal) (codesResult m c) := by
  have h := (index_at t).2.2.2.2.1
  have key : ∀ (n : Fin 256) (P : Fin 3584), (outsAt0 m c t.val t.isLt).1 (ix3 0 n P)
      = codesResult m c ((win0_4.rect t).emb (ix3 0 n P)) := fun n P => by
    rw [codes_out]
    have e : (win0_4.rect t).emb (ix3 0 n P) = (ix3 ⟨t.val / 38, by have := t.isLt; have := N_eq; omega⟩
      ⟨256 * (t.val % 38) + n.val, by omega⟩ P : S3x9728x3584.Idx) := by
      funext a; apply Fin.ext
      fin_cases a
      · show win0_4.index t 0 * 1 + 1 * 0 = t.val / 38; rw [h.1]; omega
      · show win0_4.index t 1 * 256 + 1 * n.val = 256 * (t.val % 38) + n.val; rw [h.2.1]; omega
      · show win0_4.index t 2 * 3584 + 1 * P.val = P.val; rw [h.2.2]; omega
    refine Eq.trans ?_ (congrArg (codesResult m c) e).symm
    show byteAt (fun g => mergedBlk m c t g n) P = byteAt (weights m c _ _) P
    exact congrArg (byteAt · P) (funext fun g => funext fun ρ => mergedBlk_eq m c t g n ρ)
  show (cfg0.win 4).cut (grid0.coords t) ((dats m 0 c).after 4 t) = _
  rw [after0_4]
  funext j
  have e : j = (ix3 0 (j 1) (j 2) : S1x256x3584.Idx) := by
    funext a
    fin_cases a
    · exact Subsingleton.elim (α := Fin 1) _ _
    · rfl
    · rfl
  exact (congrArg (outsAt0 m c t.val t.isLt).1 e).trans ((key (j 1) (j 2)).trans
    (congrArg (fun i => codesResult m c ((win0_4.rect t).emb i)) e).symm)

theorem flushed5 (t : Fin cfg0.N) :
    (dats m 0 c).flushed 5 t = ((cfg0.win 5).blk t).view.read (Elt Ideal) (scalesResult m c) := by
  have h := (index_at t).2.2.2.2.2
  have key : ∀ (g : Fin 56) (n : Fin 256), (outsAt0 m c t.val t.isLt).2.1 (ix3 0 g n)
      = scalesResult m c ((win0_5.rect t).emb (ix3 0 g n)) := fun g n => by
    rw [scales_out]
    have e : (win0_5.rect t).emb (ix3 0 g n) = (ix3 ⟨t.val / 38, by have := t.isLt; have := N_eq; omega⟩ g
      ⟨256 * (t.val % 38) + n.val, by omega⟩ : S3x56x9728.Idx) := by
      funext a; apply Fin.ext
      fin_cases a
      · show win0_5.index t 0 * 1 + 1 * 0 = t.val / 38; rw [h.1]; omega
      · show win0_5.index t 1 * 56 + 1 * g.val = g.val; rw [h.2.1]; omega
      · show win0_5.index t 2 * 256 + 1 * n.val = 256 * (t.val % 38) + n.val; rw [h.2.2]; omega
    refine Eq.trans ?_ (congrArg (scalesResult m c) e).symm
    show scl (amax (mergedBlk m c t g n)) = scl (amax (weights m c _ _ g))
    exact congrArg (fun v => scl (amax v)) (funext fun ρ => mergedBlk_eq m c t g n ρ)
  show (cfg0.win 5).cut (grid0.coords t) ((dats m 0 c).after 5 t) = _
  rw [after0_5]
  funext j
  have e : j = (ix3 0 (j 1) (j 2) : S1x56x256.Idx) := by
    funext a
    fin_cases a
    · exact Subsingleton.elim (α := Fin 1) _ _
    · rfl
    · rfl
  exact (congrArg (outsAt0 m c t.val t.isLt).2.1 e).trans ((key (j 1) (j 2)).trans
    (congrArg (fun i => scalesResult m c ((win0_5.rect t).emb i)) e).symm)

/-- The point that visits rows `r` of layer `L`. -/
def pointOf (L : Fin 3) (r : Fin 9728) : Fin cfg0.N := ⟨38 * L.val + r.val / 256, by have := N_eq; omega⟩

theorem final4 : (dats m 0 c).arrAt 4 cfg0.N = codesResult m c :=
  (dats m 0 c).arrAt_eq_of_cover 4 (codesResult m c) (fun t _ => flushed4 m c t) fun i =>
    ⟨pointOf (i 0) (i 1), flush0_4 _, by
      show i ∈ ((View.whole main_v2_0).slice (win0_4.rect (pointOf (i 0) (i 1)))).set
      rw [View.set_slice_whole, Rect.mem_set_unit]
      have h := (index_at (pointOf (i 0) (i 1))).2.2.2.2.1
      have h0 : (i 0 : Nat) < 3 := (i 0).isLt
      have h1 : (i 1 : Nat) < 9728 := (i 1).isLt
      have h2 : (i 2 : Nat) < 3584 := (i 2).isLt
      have hp : (pointOf (i 0) (i 1)).val = 38 * (i 0 : Nat) + (i 1 : Nat) / 256 := rfl
      intro a
      match a with
      | ⟨0, _⟩ =>
        show win0_4.index (pointOf (i 0) (i 1)) 0 * 1 ≤ (i 0 : Nat) ∧ (i 0 : Nat) < win0_4.index (pointOf (i 0) (i 1)) 0 * 1 + 1
        rw [h.1]; omega
      | ⟨1, _⟩ =>
        show win0_4.index (pointOf (i 0) (i 1)) 1 * 256 ≤ (i 1 : Nat) ∧ (i 1 : Nat) < win0_4.index (pointOf (i 0) (i 1)) 1 * 256 + 256
        rw [h.2.1]; omega
      | ⟨2, _⟩ =>
        show win0_4.index (pointOf (i 0) (i 1)) 2 * 3584 ≤ (i 2 : Nat) ∧ (i 2 : Nat) < win0_4.index (pointOf (i 0) (i 1)) 2 * 3584 + 3584
        rw [h.2.2]; omega
      | ⟨_ + 3, h⟩ => exact absurd h (Nat.not_lt.2 (Nat.le_add_left _ _))⟩

theorem final5 : (dats m 0 c).arrAt 5 cfg0.N = scalesResult m c :=
  (dats m 0 c).arrAt_eq_of_cover 5 (scalesResult m c) (fun t _ => flushed5 m c t) fun i =>
    ⟨pointOf (i 0) (i 2), flush0_5 _, by
      show i ∈ ((View.whole main_v2_1).slice (win0_5.rect (pointOf (i 0) (i 2)))).set
      rw [View.set_slice_whole, Rect.mem_set_unit]
      have h := (index_at (pointOf (i 0) (i 2))).2.2.2.2.2
      have h0 : (i 0 : Nat) < 3 := (i 0).isLt
      have h1 : (i 1 : Nat) < 56 := (i 1).isLt
      have h2 : (i 2 : Nat) < 9728 := (i 2).isLt
      have hp : (pointOf (i 0) (i 2)).val = 38 * (i 0 : Nat) + (i 2 : Nat) / 256 := rfl
      intro a
      match a with
      | ⟨0, _⟩ =>
        show win0_5.index (pointOf (i 0) (i 2)) 0 * 1 ≤ (i 0 : Nat) ∧ (i 0 : Nat) < win0_5.index (pointOf (i 0) (i 2)) 0 * 1 + 1
        rw [h.1]; omega
      | ⟨1, _⟩ =>
        show win0_5.index (pointOf (i 0) (i 2)) 1 * 56 ≤ (i 1 : Nat) ∧ (i 1 : Nat) < win0_5.index (pointOf (i 0) (i 2)) 1 * 56 + 56
        rw [h.2.1]; omega
      | ⟨2, _⟩ =>
        show win0_5.index (pointOf (i 0) (i 2)) 2 * 256 ≤ (i 2 : Nat) ∧ (i 2 : Nat) < win0_5.index (pointOf (i 0) (i 2)) 2 * 256 + 256
        rw [h.2.2]; omega
      | ⟨_ + 3, h⟩ => exact absurd h (Nat.not_lt.2 (Nat.le_add_left _ _))⟩

/-- The scales as the kernel returns them. -/
def scalesReturned : Buf (Elt Ideal) ((c : Thread nD τ).loc main_v3) :=
  fun j => scl (amax (weights m c (j 0) (j 1) (j 2)))

theorem tail_v3 : Pipeline.afterTail₀ cfgs (dats m) 0 (V0 m) [hostOps1] c main_v3 = scalesReturned m c := by
  have e : Pipeline.afterTail₀ cfgs (dats m) 0 (V0 m) [hostOps1] c main_v3
      = transpose S3x9728x56 [0, 2, 1] (Pipeline.withArrays spec0 c (V0 m c) (fun w => (dats m 0 c).arrAt w cfg0.N)
          (Proc.devRef .tc (Pipeline.arrRef spec0 5))) transposes_S3x56x9728_S3x9728x56_0_2_1 := rfl
  rw [e, Pipeline.withArrays_arr spec0 (by decide) c (V0 m c) (fun w => (dats m 0 c).arrAt w cfg0.N) 5]
  refine (congrArg (fun x => transpose S3x9728x56 [0, 2, 1] x transposes_S3x56x9728_S3x9728x56_0_2_1) (final5 m c)).trans ?_
  funext j
  have e : j = (ix3 (j 0) (j 1) (j 2) : S3x9728x56.Idx) := by
    funext a
    fin_cases a <;> rfl
  rw [e]
  exact v3_apply (scalesResult m c) _ _ _

/-- The run: both results, and the arguments as they were. -/
theorem run : θ_run (defs (F := Ideal)) (onTc (τ := τ) (main (F := Ideal))) ⟨m, fun _ => 0, ρ⟩ (fun r => ∀ c : Dev nD,
    r.2.mem ((c.tc : Thread nD τ).loc main_v2_0) = codesResult m c
    ∧ r.2.mem ((c.tc : Thread nD τ).loc main_v3) = scalesReturned m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ?_) (θ_run_and (unchanged (F := Ideal) m ρ) (run_main (F := Ideal) m ρ))
  exact ⟨((h.2 c).1 4).trans (final4 m c), ((h.2 c).2 main_v3 (by decide)).trans (tail_v3 m c), h.1 c⟩

end Cert.KernelIdeal.Model

end
-- ==== Proof.Reference.lean ====
/-
What the reference's pieces hold, entry by entry.
-/
module

public import proofs.«01_k».proof.Proof.Gen.ReferenceIdeal.Run
public import proofs.«01_k».proof.Proof.Arrays

@[expose] public section

set_option maxRecDepth 16384

noncomputable section

namespace Cert.ReferenceIdeal.Plain

open Idealize.ShloMosaic Cert.ReferenceIdeal Cert.ReferenceIdeal.Gen
open Cert.KernelIdeal.Model (nibble weight alpha eabs amax scl codeOf byteOf byteAt of_dite)

/-- The unpacked and scaled weights of one half of the bytes, the half chosen by the shift `k`. -/
def base (k : BitVec 32) (Q : Vec Ideal S3x9728x3584 .i8) (ws : Vec Ideal S3x9728x224 .bf16) : FVec Ideal S3x9728x3584 .bf16 :=
  shapeCast _ (mulf (sitofp .bf16 (shapeCast _ (Host.shrsi (Host.shli (extui 32 Q natLt_8_32) (broadcastInDim S3x9728x3584 ![] bcast_S_S3x9728x3584 (constantI S_ 32 k))) (broadcastInDim S3x9728x3584 ![] bcast_S_S3x9728x3584 (constantI S_ 32 28#32))) shapeCasts_S3x9728x3584_S3x9728x224x16)) (broadcastInDim S3x9728x224x16 ![0, 1, 2, 3] bcast_S3x9728x224x1_S3x9728x224x16_0_1_2_3 (broadcastInDim S3x9728x224x1 ![0, 1, 2] bcast_S3x9728x224_S3x9728x224x1_0_1_2 ws))) shapeCasts_S3x9728x224x16_S3x9728x3584

/-- One half of the merged weights: the half's unpacked weights plus the low-rank update at its columns. -/
def half (b : FVec Ideal S3x9728x3584 .bf16) (lb : FVec Ideal S3x9728x40 .bf16) (a : FVec Ideal S3x40x3584 .bf16) : FVec Ideal S3x9728x56x64 .f32 :=
  shapeCast _ (addf (extf .f32 b bitsLt_bf16_f32) (mulf (broadcastInDim S3x9728x3584 ![] bcast_S_S3x9728x3584 (constant S_ .f32 0x3ECCCCCD#32)) (Host.dotGeneral dot_S3x9728x40_S3x40x3584_S3x9728x3584_2_1_1_2_0_0 none lb a))) shapeCasts_S3x9728x3584_S3x9728x56x64

/-- The largest absolute value of each group of one half. -/
def most (h : FVec Ideal S3x9728x56x64 .f32) : FVec Ideal S3x9728x56 .f32 :=
  Host.reduce FloatOps.maximumf (Host.absf h) (constant S_ .f32 0xFF800000#32) reducesTo_S3x9728x56x64_S3x9728x56_d3 h_S_

/-- The scale of each group, from its largest absolute value. -/
def scale (a : FVec Ideal S3x9728x56 .f32) : FVec Ideal S3x9728x56 .bf16 :=
  truncf .bf16 (select (cmpf .oeq a (broadcastInDim S3x9728x56 ![] bcast_S_S3x9728x56 (constant S_ .f32 0x00000000#32))) (broadcastInDim S3x9728x56 ![] bcast_S_S3x9728x56 (id (constant S_ .f32 0x3F800000#32))) (Host.divf a (broadcastInDim S3x9728x56 ![] bcast_S_S3x9728x56 (constant S_ .f32 0x40E00000#32)))) bitsLt_bf16_f32

/-- The codes of one half. -/
def codes (h : FVec Ideal S3x9728x56x64 .f32) (s : FVec Ideal S3x9728x56 .bf16) : IVec S3x9728x3584 32 :=
  shapeCast _ (fptosi 32 (minimumf (broadcastInDim S3x9728x56x64 ![] bcast_S_S3x9728x56x64 (id (constant S_ .f32 0x40E00000#32))) (maximumf (broadcastInDim S3x9728x56x64 ![] bcast_S_S3x9728x56x64 (id (constant S_ .f32 0xC0E00000#32))) (Host.roundeven (Host.divf h (broadcastInDim S3x9728x56x64 ![0, 1, 2, 3] bcast_S3x9728x56x1_S3x9728x56x64_0_1_2_3 (broadcastInDim S3x9728x56x1 ![0, 1, 2] bcast_S3x9728x56_S3x9728x56x1_0_1_2 (extf .f32 s bitsLt_bf16_f32)))))))) shapeCasts_S3x9728x56x64_S3x9728x3584

/-- The bytes of the packed codes. -/
def pack (lo hi : IVec S3x9728x3584 32) : IVec S3x9728x3584 8 :=
  trunci 8 (ori (Host.shli (andi hi (broadcastInDim S3x9728x3584 ![] bcast_S_S3x9728x3584 (constantI S_ 32 15#32))) (broadcastInDim S3x9728x3584 ![] bcast_S_S3x9728x3584 (constantI S_ 32 4#32))) (andi lo (broadcastInDim S3x9728x3584 ![] bcast_S_S3x9728x3584 (constantI S_ 32 15#32)))) natLt_8_32

variable (L : Fin 3) (r : Fin 9728)

theorem low_apply (la : Vec Ideal S3x40x7168 .bf16) (k : Fin 40) (p : Fin 3584) :
    Host.slice S3x40x3584 ![0, 0, 0] ![1, 1, 2] la slicesBy_S3x40x7168_S3x40x3584_0s1_0s1_0s2 (ix3 L k p)
      = la (ix3 L k ⟨2 * p.val, by omega⟩) := by
  pointwise

theorem high_apply (la : Vec Ideal S3x40x7168 .bf16) (k : Fin 40) (p : Fin 3584) :
    Host.slice S3x40x3584 ![0, 0, 1] ![1, 1, 2] la slicesBy_S3x40x7168_S3x40x3584_0s1_0s1_1s2 (ix3 L k p)
      = la (ix3 L k ⟨2 * p.val + 1, by omega⟩) := by
  pointwise
  exact congrArg la (congrArg (ix3 L k) (Fin.ext (Nat.add_comm _ _)))

theorem base_apply (k : BitVec 32) (Q : Vec Ideal S3x9728x3584 .i8) (ws : Vec Ideal S3x9728x224 .bf16) (p : Fin 3584) :
    base k Q ws (ix3 L r p) = FloatOps.sitofp (F := Ideal) FTy.bf16
        (IntOp.shrsi ArithUnit.host (IntOp.shli ArithUnit.host (BitVec.setWidth 32 (Q (ix3 L r p))) k) 28#32)
      * ws (ix3 L r ⟨p.val / 16, by omega⟩) := by
  unfold base
  pointwise

theorem half_apply (b : FVec Ideal S3x9728x3584 .bf16) (lb : FVec Ideal S3x9728x40 .bf16) (a : FVec Ideal S3x40x3584 .bf16)
    (g : Fin 56) (j : Fin 64) :
    half b lb a (ix4 L r g j) = b (ix3 L r ⟨g.val * 64 + j.val, by omega⟩)
      + alpha * ∑ k : Fin 40, lb (ix3 L r k) * a (ix3 L k ⟨g.val * 64 + j.val, by omega⟩) := by
  unfold half
  pointwise [dot_S3x9728x40_S3x40x3584_S3x9728x3584_2_1_1_2_0_0]
  rfl

theorem most_le (h : FVec Ideal S3x9728x56x64 .f32) (g : Fin 56) (b : EReal) :
    most h (ix3 L r g) ≤ b ↔ ∀ j : Fin 64, eabs (h (ix4 L r g j)) ≤ b := by
  have e : most h (ix3 L r g) = Finset.fold max (Ideal.ofBits FTy.f32 4286578688#32)
      (fun x => FloatOps.absf (F := Ideal) (φ := .f32) (h (ix4 L r g x))) Finset.univ := by
    unfold most
    pointwise
  rw [e, Finset.fold_max_le]
  have z : Ideal.ofBits FTy.f32 4286578688#32 = ⊥ := by decide +kernel
  rw [z]
  exact ⟨fun h j => h.2 j (Finset.mem_univ _), fun h => ⟨bot_le, fun j _ => h j⟩⟩

theorem scale_apply (a : FVec Ideal S3x9728x56 .f32) (g : Fin 56) : scale a (ix3 L r g) = scl (a (ix3 L r g)) := by
  unfold scale
  pointwise
  have z : id (constant (F := Ideal) S_ FTy.f32 1065353216#32) ix0 = (1 : EReal) := Ideal.ofBits_one_f32
  rw [z]
  rfl

theorem codes_apply (h : FVec Ideal S3x9728x56x64 .f32) (s : FVec Ideal S3x9728x56 .bf16) (p : Fin 3584) :
    codes h s (ix3 L r p) = codeOf (Ideal.div (h (ix4 L r ⟨p.val / 64, by omega⟩ ⟨p.val % 64, by omega⟩)) (s (ix3 L r ⟨p.val / 64, by omega⟩))) := by
  unfold codes
  pointwise
  rfl

theorem pack_apply (lo hi : IVec S3x9728x3584 32) (p : Fin 3584) :
    pack lo hi (ix3 L r p) = byteOf (lo (ix3 L r p)) (hi (ix3 L r p)) := by
  unfold pack
  pointwise
  unfold byteOf
  show BitVec.setWidth 8 (((hi (ix3 L r p) &&& 15#32) <<< 4) ||| (lo (ix3 L r p) &&& 15#32)) = _
  rw [BitVec.or_comm]

variable (m : (ℓ : Loc nD τ sig) → Buf (Elt Ideal) ℓ) (c : Dev nD)

/-- The arguments at their types. -/
abbrev argQ : Vec Ideal S3x9728x3584 .i8 := m ((c.tc : Thread nD τ).loc main_arg0)
abbrev argS : Vec Ideal S3x9728x224 .bf16 := m ((c.tc : Thread nD τ).loc main_arg1)
abbrev argA : Vec Ideal S3x40x7168 .bf16 := m ((c.tc : Thread nD τ).loc main_arg2)
abbrev argB : Vec Ideal S3x9728x40 .bf16 := m ((c.tc : Thread nD τ).loc main_arg3)

/-- The merged weights at the even columns. -/
def lowHalf : FVec Ideal S3x9728x56x64 .f32 :=
  half (base 28#32 (argQ m c) (argS m c)) (argB m c) (Host.slice S3x40x3584 ![0, 0, 0] ![1, 1, 2] (argA m c) slicesBy_S3x40x7168_S3x40x3584_0s1_0s1_0s2)

/-- The merged weights at the odd columns. -/
def highHalf : FVec Ideal S3x9728x56x64 .f32 :=
  half (base 24#32 (argQ m c) (argS m c)) (argB m c) (Host.slice S3x40x3584 ![0, 0, 1] ![1, 1, 2] (argA m c) slicesBy_S3x40x7168_S3x40x3584_0s1_0s1_1s2)

/-- The scales. -/
def scales : FVec Ideal S3x9728x56 .bf16 := scale (maximumf (most (lowHalf m c)) (most (highHalf m c)))

theorem res_scales : Value.res_main_v45 (F := Ideal) m c = scales m c := by
  sl_kernel_rfl

theorem res_codes : Value.res_main_v67 (F := Ideal) m c = pack (codes (lowHalf m c) (scales m c)) (codes (highHalf m c) (scales m c)) := by
  sl_kernel_rfl

/-- The merged weights of the arguments. -/
def weights : Fin 56 → Fin 128 → EReal := weight (argQ m c) (argS m c) (argA m c) (argB m c) L r

theorem low_eq (g : Fin 56) (j : Fin 64) : lowHalf m c (ix4 L r g j) = weights L r m c g ⟨2 * j.val, by omega⟩ := by
  unfold lowHalf weights weight
  refine (half_apply L r _ _ _ g j).trans ?_
  rw [base_apply]
  have e1 : (⟨g.val * 64 + j.val, by omega⟩ : Fin 3584) = ⟨64 * g.val + (2 * j.val) / 2, by omega⟩ := Fin.ext (by simp only; omega)
  have e2 : (⟨(g.val * 64 + j.val) / 16, by omega⟩ : Fin 224) = ⟨4 * g.val + (2 * j.val) / 32, by omega⟩ := Fin.ext (by simp only; omega)
  refine congrArg₂ (· + ·) (congrArg₂ (· * ·) ?_ (congrArg (fun i => argS m c (ix3 L r i)) e2))
    (congrArg (alpha * ·) (Finset.sum_congr rfl fun k _ => congrArg (argB m c (ix3 L r k) * ·) ?_))
  · unfold nibble
    rw [if_pos (by simp only; omega), ← e1]
    rfl
  · refine (low_apply L (argA m c) k _).trans (congrArg (fun i => argA m c (ix3 L k i)) (Fin.ext ?_))
    simp only; omega

theorem high_eq (g : Fin 56) (j : Fin 64) : highHalf m c (ix4 L r g j) = weights L r m c g ⟨2 * j.val + 1, by omega⟩ := by
  unfold highHalf weights weight
  refine (half_apply L r _ _ _ g j).trans ?_
  rw [base_apply]
  have e1 : (⟨g.val * 64 + j.val, by omega⟩ : Fin 3584) = ⟨64 * g.val + (2 * j.val + 1) / 2, by omega⟩ := Fin.ext (by simp only; omega)
  have e2 : (⟨(g.val * 64 + j.val) / 16, by omega⟩ : Fin 224) = ⟨4 * g.val + (2 * j.val + 1) / 32, by omega⟩ := Fin.ext (by simp only; omega)
  refine congrArg₂ (· + ·) (congrArg₂ (· * ·) ?_ (congrArg (fun i => argS m c (ix3 L r i)) e2))
    (congrArg (alpha * ·) (Finset.sum_congr rfl fun k _ => congrArg (argB m c (ix3 L r k) * ·) ?_))
  · unfold nibble
    rw [if_neg (by simp only; omega), ← e1]
    rfl
  · refine (high_apply L (argA m c) k _).trans (congrArg (fun i => argA m c (ix3 L k i)) (Fin.ext ?_))
    simp only; omega

/-- The largest absolute value of a group is that of its even and odd columns together. -/
theorem most_eq (g : Fin 56) :
    max (most (lowHalf m c) (ix3 L r g)) (most (highHalf m c) (ix3 L r g)) = amax (weights L r m c g) := by
  refine eq_of_forall_ge_iff fun b => ?_
  rw [max_le_iff, most_le, most_le]
  have h : amax (weights L r m c g) ≤ b ↔ ∀ ρ : Fin 128, eabs (weights L r m c g ρ) ≤ b := by
    unfold amax
    rw [Finset.sup_le_iff]
    exact ⟨fun h ρ => h ρ (Finset.mem_univ _), fun h ρ _ => h ρ⟩
  rw [h]
  constructor
  · rintro ⟨h0, h1⟩ ρ
    rcases Nat.mod_two_eq_zero_or_one ρ.val with e | e
    · have := h0 ⟨ρ.val / 2, by omega⟩
      rw [low_eq] at this
      have e' : (⟨2 * (ρ.val / 2), by omega⟩ : Fin 128) = ρ := Fin.ext (by simp only; omega)
      simp only [e'] at this
      exact this
    · have := h1 ⟨ρ.val / 2, by omega⟩
      rw [high_eq] at this
      have e' : (⟨2 * (ρ.val / 2) + 1, by omega⟩ : Fin 128) = ρ := Fin.ext (by simp only; omega)
      simp only [e'] at this
      exact this
  · intro h
    refine ⟨fun j => ?_, fun j => ?_⟩
    · rw [low_eq]; exact h _
    · rw [high_eq]; exact h _

theorem max_apply (x y : FVec Ideal S3x9728x56 .f32) (g : Fin 56) :
    maximumf x y (ix3 L r g) = max (x (ix3 L r g)) (y (ix3 L r g)) := by
  pointwise

theorem scales_apply (g : Fin 56) : scales m c (ix3 L r g) = scl (amax (weights L r m c g)) := by
  unfold scales
  rw [scale_apply, max_apply, most_eq]

theorem codes_low_apply (p : Fin 3584) : codes (lowHalf m c) (scales m c) (ix3 L r p)
    = codeOf (Ideal.div (weights L r m c ⟨p.val / 64, by omega⟩ ⟨2 * (p.val % 64), by omega⟩)
        (scl (amax (weights L r m c ⟨p.val / 64, by omega⟩)))) := by
  have h1 := low_eq L r m c ⟨p.val / 64, by omega⟩ ⟨p.val % 64, by omega⟩
  have h2 := scales_apply L r m c ⟨p.val / 64, by omega⟩
  have h3 := codes_apply L r (lowHalf m c) (scales m c) p
  rw [h1, h2] at h3
  exact h3

theorem codes_high_apply (p : Fin 3584) : codes (highHalf m c) (scales m c) (ix3 L r p)
    = codeOf (Ideal.div (weights L r m c ⟨p.val / 64, by omega⟩ ⟨2 * (p.val % 64) + 1, by omega⟩)
        (scl (amax (weights L r m c ⟨p.val / 64, by omega⟩)))) := by
  have h1 := high_eq L r m c ⟨p.val / 64, by omega⟩ ⟨p.val % 64, by omega⟩
  have h2 := scales_apply L r m c ⟨p.val / 64, by omega⟩
  have h3 := codes_apply L r (highHalf m c) (scales m c) p
  rw [h1, h2] at h3
  exact h3

theorem pack_codes_apply (p : Fin 3584) :
    pack (codes (lowHalf m c) (scales m c)) (codes (highHalf m c) (scales m c)) (ix3 L r p) = byteAt (weights L r m c) p := by
  have h := pack_apply L r (codes (lowHalf m c) (scales m c)) (codes (highHalf m c) (scales m c)) p
  rw [codes_low_apply, codes_high_apply] at h
  unfold byteAt
  exact h

end Cert.ReferenceIdeal.Plain

end
-- ==== Proof.Equation.lean ====
/-
The kernel and the reference leave the same codes and the same scales.
-/
module

public import proofs.«01_k».proof.Defs
public import proofs.«01_k».proof.Proof.Reference

@[expose] public section

set_option maxRecDepth 16384

noncomputable section

namespace Cert.Equation

open Idealize.ShloMosaic Idealize.ShloMosaic.TcCoe Idealize.SL.Sem
open Cert.KernelIdeal.Model (codesResult scalesReturned)

/-- Memories of the two programs that hold the same arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

theorem weights_eq (h : Agree m m' c) (L : Fin 3) (r : Fin 9728) :
    Cert.ReferenceIdeal.Plain.weights L r m' c = Cert.KernelIdeal.Model.weights m c L r := by
  unfold Cert.ReferenceIdeal.Plain.weights Cert.KernelIdeal.Model.weights Cert.ReferenceIdeal.Plain.argQ
    Cert.ReferenceIdeal.Plain.argS Cert.ReferenceIdeal.Plain.argA Cert.ReferenceIdeal.Plain.argB
  rw [h.1, h.2.1, h.2.2.1, h.2.2.2]

theorem codes_eq (h : Agree m m' c) : Cert.ReferenceIdeal.Value.res_main_v67 (F := Ideal) m' c = codesResult m c := by
  rw [Cert.ReferenceIdeal.Plain.res_codes]
  funext j
  have e : j = (ix3 (j 0) (j 1) (j 2) : Cert.ReferenceIdeal.S3x9728x3584.Idx) := by
    funext a
    fin_cases a <;> rfl
  refine (congrArg _ e).trans ((Cert.ReferenceIdeal.Plain.pack_codes_apply (j 0) (j 1) m' c (j 2)).trans ?_)
  exact congrArg (Cert.KernelIdeal.Model.byteAt · (j 2)) (weights_eq h (j 0) (j 1))

theorem scales_eq (h : Agree m m' c) : Cert.ReferenceIdeal.Value.res_main_v45 (F := Ideal) m' c = scalesReturned m c := by
  rw [Cert.ReferenceIdeal.Plain.res_scales]
  funext j
  have e : j = (ix3 (j 0) (j 1) (j 2) : Cert.ReferenceIdeal.S3x9728x56.Idx) := by
    funext a
    fin_cases a <;> rfl
  refine (congrArg _ e).trans ((Cert.ReferenceIdeal.Plain.scales_apply (j 0) (j 1) m' c (j 2)).trans ?_)
  exact congrArg (fun w => Cert.KernelIdeal.Model.scl (Cert.KernelIdeal.Model.amax (w (j 2)))) (weights_eq h (j 0) (j 1))

/-- From the same arguments, the kernel and the reference end with the same two results. -/
theorem algebraic : Cert.algebraic_KernelIdeal_ReferenceIdeal (hKernelIdeal := Cert.KernelIdeal.Gen.facts)
    (hReferenceIdeal := Cert.ReferenceIdeal.Gen.facts) := fun m g m' g' _ h =>
  ⟨codesResult m, scalesReturned m, Cert.KernelIdeal.Model.run m g,
    (θ_run Cert.ReferenceIdeal.defs _ _).mono
      (fun _ hr c => ⟨(hr c).1.trans (codes_eq (h c)), (hr c).2.1.trans (scales_eq (h c)), (hr c).2.2⟩)
      (Cert.ReferenceIdeal.Value.run (F := Ideal) m' g')⟩

end Cert.Equation

end
-- ==== Proof.lean ====
/- The certificate of the LoRA merge-and-requantise kernel: the frames of the kernel, of its ideal reading and of the
   reference, from the generated runs, and the equation of the ideal reading and the reference (Proof/Equation.lean). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The reference runs, leaves its arguments as they were, and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Each rewrite of packed words into pairs of bf16 rows, at each shape where it is used. -/
theorem preserves : Cert.preserves_Kernel_KernelIdeal :=
  ⟨IdealRules.bf16_pair.bufferStatement _ _, IdealRules.bf16_pair.bufferStatement _ _, IdealRules.bf16_pair.statement _ _,
    IdealRules.bf16_pair.statement _ _, IdealRules.bf16_pair.packStatement _, IdealRules.bf16_pair.statement _ _,
    IdealRules.bf16_pair.statement _ _, IdealRules.bf16_pair.statement _ _, IdealRules.bf16_pair.statement _ _,
    IdealRules.bf16_pair.statement _ _⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves, Cert.Equation.algebraic⟩

end Cert.Proof

end
